-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  bcast_S_S8x1024x16x128 : S_.BroadcastsInDim S8x1024x16x128 (![] : Fin 0 → Fin S8x1024x16x128.rank)

variable [Facts]

def fn {F : FTy → Type} [FloatOps F] (main_arg0 : FVec F S8x8x16x128 .f32) (main_arg1 : FVec F S8x1024x16x128 .f32) (main_arg2 : FVec F S8x1024x16x128 .f32) : IVec S8x8x16x128 1 × IVec S8x1024x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x1024x16x128 .f32 := Host.absf main_arg1
  let main_cst_0 : FVec F S_ .f32 := constant S_ .f32 0x7F800000#32
  let main_v4 : FVec F S8x1024x16x128 .f32 := broadcastInDim S8x1024x16x128 ![] bcast_S_S8x1024x16x128 main_cst_0
  let main_v5 : IVec S8x1024x16x128 1 := cmpf .olt main_v3 main_v4
  (main_v2, main_v5)
-- ==== Pre_finite_scores_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  bcast_S_S8x2048x16x128 : S_.BroadcastsInDim S8x2048x16x128 (![] : Fin 0 → Fin S8x2048x16x128.rank)

variable [Facts]

def fn {F : FTy → Type} [FloatOps F] (main_arg0 : FVec F S8x8x16x128 .f32) (main_arg1 : FVec F S8x2048x16x128 .f32) (main_arg2 : FVec F S8x2048x16x128 .f32) : IVec S8x8x16x128 1 × IVec S8x2048x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x2048x16x128 .f32 := Host.absf main_arg1
  let main_cst_0 : FVec F S_ .f32 := constant S_ .f32 0x7F800000#32
  let main_v4 : FVec F S8x2048x16x128 .f32 := broadcastInDim S8x2048x16x128 ![] bcast_S_S8x2048x16x128 main_cst_0
  let main_v5 : IVec S8x2048x16x128 1 := cmpf .olt main_v3 main_v4
  (main_v2, main_v5)
-- ==== Kernel.lean ====
abbrev S8x8x16x128 : Shape := ⟨4, ![8, 8, 16, 128]⟩
abbrev S8x1024x16x128 : Shape := ⟨4, ![8, 1024, 16, 128]⟩
abbrev S1x8x16x128 : Shape := ⟨4, ![1, 8, 16, 128]⟩
abbrev S4x1024x512 : Shape := ⟨3, ![4, 1024, 512]⟩
abbrev S4 : Shape := ⟨1, ![4]⟩
abbrev S8x16x8x128 : Shape := ⟨4, ![8, 16, 8, 128]⟩
abbrev S8x8x32 : Shape := ⟨3, ![8, 8, 32]⟩
abbrev S8 : Shape := ⟨1, ![8]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S8x1024x4x512 : Shape := ⟨4, ![8, 1024, 4, 512]⟩
abbrev S1x1024x1x512 : Shape := ⟨4, ![1, 1024, 1, 512]⟩
abbrev S1x8x1x128 : Shape := ⟨4, ![1, 8, 1, 128]⟩
abbrev S8x128 : Shape := ⟨2, ![8, 128]⟩
abbrev S1x1024x128 : Shape := ⟨3, ![1, 1024, 128]⟩
abbrev S1024x128 : Shape := ⟨2, ![1024, 128]⟩
abbrev S8x1024 : Shape := ⟨2, ![8, 1024]⟩
abbrev S8x1 : Shape := ⟨2, ![8, 1]⟩
abbrev S1x1x8x128 : Shape := ⟨4, ![1, 1, 8, 128]⟩
abbrev S8x32 : Shape := ⟨2, ![8, 32]⟩
abbrev S1x8x32 : Shape := ⟨3, ![1, 8, 32]⟩
abbrev S1x16x8x128 : Shape := ⟨4, ![1, 16, 8, 128]⟩
abbrev S16x8x128 : Shape := ⟨3, ![16, 8, 128]⟩
abbrev S8x8x16 : Shape := ⟨3, ![8, 8, 16]⟩
abbrev S8x1x8x128 : Shape := ⟨4, ![8, 1, 8, 128]⟩
abbrev S8x8x128 : Shape := ⟨3, ![8, 8, 128]⟩
abbrev S8x8x1 : Shape := ⟨3, ![8, 8, 1]⟩
abbrev S8x8x1x128 : Shape := ⟨4, ![8, 8, 1, 128]⟩

abbrev nBuf : Space → Nat
  | .hbm => 4
  | .vmem => 9
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S1x8x16x128, .f32⟩
  | .local _ .vmem, ⟨1, _⟩ => ⟨S1x8x16x128, .f32⟩
  | .local _ .vmem, ⟨2, _⟩ => ⟨S8x8x16x128, .f32⟩
  | .local _ .vmem, ⟨3, _⟩ => ⟨S4x1024x512, .f32⟩
  | .local _ .vmem, ⟨4, _⟩ => ⟨S4x1024x512, .f32⟩
  | .local _ .vmem, ⟨5, _⟩ => ⟨S8x16x8x128, .bf16⟩
  | .local _ .vmem, ⟨6, _⟩ => ⟨S8x8x32, .f32⟩
  | .local _ .vmem, ⟨7, _⟩ => ⟨S8x16x8x128, .bf16⟩
  | .local _ .vmem, ⟨8, _⟩ => ⟨S8x8x32, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_3 : BitVec 32 := 0#32
  let v12 : BitVec 1 := Scalar.cmpi .ne v11 c0_i32_3
  v12

def k0_dev1 (d0 : Dev nD) : Nat :=
  let c0_i32_375 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_374 : BitVec 32 := 8#32
  let v551 : BitVec 32 := Scalar.muli v2 c8_i32_374
  let v552 : BitVec 32 := Scalar.addi c0_i32_375 v551
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_376 : BitVec 32 := 4#32
  let v553 : BitVec 32 := Scalar.muli v9 c4_i32_376
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v555 : BitVec 32 := Scalar.muli v8 c1_i32_377
  let v556 : BitVec 32 := Scalar.addi v554 v555
  v556.toNat
def k0_cond2 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

def k0_off1 (i : grid0.Coords) : Fin 4 → Nat :=
  let arg0 : BitVec 32 := BitVec.ofNat 32 (i 0).val
  let c0_i32_378 : BitVec 32 := 0#32
  let c0_i32_373 : BitVec 32 := 0#32
  let c0_i32_379 : BitVec 32 := 0#32
  ![arg0.toNat, 0, 0, 0]
def k0_off2 (i : grid0.Coords) : Fin 4 → Nat :=
  let arg0 : BitVec 32 := BitVec.ofNat 32 (i 0).val
  let c0_i32_392 : BitVec 32 := 0#32
  let c1_i32_387 : BitVec 32 := 1#32
  let c0_i32_393 : BitVec 32 := 0#32
  ![arg0.toNat, 0, 1, 0]
def k0_off3 (i : grid0.Coords) : Fin 4 → Nat :=
  let arg0 : BitVec 32 := BitVec.ofNat 32 (i 0).val
  let c0_i32_406 : BitVec 32 := 0#32
  let c2_i32_401 : BitVec 32 := 2#32
  let c0_i32_407 : BitVec 32 := 0#32
  ![arg0.toNat, 0, 2, 0]
def k0_off4 (i : grid0.Coords) : Fin 4 → Nat :=
  let arg0 : BitVec 32 := BitVec.ofNat 32 (i 0).val
  let c0_i32_10 : BitVec 32 := 0#32
  let c3_i32 : BitVec 32 := 3#32
  let c0_i32_11 : BitVec 32 := 0#32
  ![arg0.toNat, 0, 3, 0]
def k0_off5 (i : grid0.Coords) : Fin 4 → Nat :=
  let arg0 : BitVec 32 := BitVec.ofNat 32 (i 0).val
  let c0_i32_24 : BitVec 32 := 0#32
  let c0_i32_19 : BitVec 32 := 0#32
  let c0_i32_25 : BitVec 32 := 0#32
  ![arg0.toNat, 0, 0, 0]
def k0_off6 (i : grid0.Coords) : Fin 4 → Nat :=
  let arg0 : BitVec 32 := BitVec.ofNat 32 (i 0).val
  let v66 : Index := Scalar.indexCast arg0
  let c0_46 : Index := 0#32
  let c0_47 : Index := 0#32
  let c0_48 : Index := 0#32
  ![v66.toNat, 0, 0, 0]
def k0_off7 (i : grid0.Coords) : Fin 4 → Nat :=
  let arg0 : BitVec 32 := BitVec.ofNat 32 (i 0).val
  let v92 : Index := Scalar.indexCast arg0
  let c1_62 : Index := 1#32
  let c0_63 : Index := 0#32
  let c0_64 : Index := 0#32
  ![v92.toNat, 1, 0, 0]
def k0_off8 (i : grid0.Coords) : Fin 4 → Nat :=
  let arg0 : BitVec 32 := BitVec.ofNat 32 (i 0).val
  let v118 : Index := Scalar.indexCast arg0
  let c2_78 : Index := 2#32
  let c0_79 : Index := 0#32
  let c0_80 : Index := 0#32
  ![v118.toNat, 2, 0, 0]
def k0_off9 (i : grid0.Coords) : Fin 4 → Nat :=
  let arg0 : BitVec 32 := BitVec.ofNat 32 (i 0).val
  let v144 : Index := Scalar.indexCast arg0
  let c3_94 : Index := 3#32
  let c0_95 : Index := 0#32
  let c0_96 : Index := 0#32
  ![v144.toNat, 3, 0, 0]
def k0_cond3 (i : grid0.Coords) : BitVec 1 :=
  let arg0 : BitVec 32 := BitVec.ofNat 32 (i 0).val
  let c1_i32_97 : BitVec 32 := 1#32
  let v148 : BitVec 32 := Scalar.addi arg0 c1_i32_97
  let c8_i32_98 : BitVec 32 := 8#32
  let v149 : BitVec 1 := Scalar.cmpi .slt v148 c8_i32_98
  let v150 : BitVec 32 := Scalar.extui v149
  let c0_i32_99 : BitVec 32 := 0#32
  let v151 : BitVec 1 := Scalar.cmpi .ne v150 c0_i32_99
  v151

def k0_off10 (i : grid0.Coords) : Fin 4 → Nat :=
  let arg0 : BitVec 32 := BitVec.ofNat 32 (i 0).val
  let c1_i32_373 : BitVec 32 := 1#32
  let v550 : BitVec 32 := Scalar.addi arg0 c1_i32_373
  let c0_i32_379 : BitVec 32 := 0#32
  let c0_i32_374 : BitVec 32 := 0#32
  let c0_i32_380 : BitVec 32 := 0#32
  ![v550.toNat, 0, 0, 0]
def k0_off11 (i : grid0.Coords) : Fin 4 → Nat :=
  let arg0 : BitVec 32 := BitVec.ofNat 32 (i 0).val
  let c0_i32_105 : BitVec 32 := 0#32
  let c1_i32_100 : BitVec 32 := 1#32
  let c0_i32_106 : BitVec 32 := 0#32
  ![arg0.toNat, 0, 1, 0]
def k0_off12 (i : grid0.Coords) : Fin 4 → Nat :=
  let arg0 : BitVec 32 := BitVec.ofNat 32 (i 0).val
  let v188 : Index := Scalar.indexCast arg0
  let c4_128 : Index := 4#32
  let c0_129 : Index := 0#32
  let c0_130 : Index := 0#32
  ![v188.toNat, 4, 0, 0]
def k0_off13 (i : grid0.Coords) : Fin 4 → Nat :=
  let arg0 : BitVec 32 := BitVec.ofNat 32 (i 0).val
  let v214 : Index := Scalar.indexCast arg0
  let c5_145 : Index := 5#32
  let c0_146 : Index := 0#32
  let c0_147 : Index := 0#32
  ![v214.toNat, 5, 0, 0]
def k0_off14 (i : grid0.Coords) : Fin 4 → Nat :=
  let arg0 : BitVec 32 := BitVec.ofNat 32 (i 0).val
  let v240 : Index := Scalar.indexCast arg0
  let c6_162 : Index := 6#32
  let c0_163 : Index := 0#32
  let c0_164 : Index := 0#32
  ![v240.toNat, 6, 0, 0]
def k0_off15 (i : grid0.Coords) : Fin 4 → Nat :=
  let arg0 : BitVec 32 := BitVec.ofNat 32 (i 0).val
  let v266 : Index := Scalar.indexCast arg0
  let c7_179 : Index := 7#32
  let c0_180 : Index := 0#32
  let c0_181 : Index := 0#32
  ![v266.toNat, 7, 0, 0]
def k0_cond4 (i : grid0.Coords) : BitVec 1 :=
  let arg0 : BitVec 32 := BitVec.ofNat 32 (i 0).val
  let c1_i32_182 : BitVec 32 := 1#32
  let v270 : BitVec 32 := Scalar.addi arg0 c1_i32_182
  let c8_i32_183 : BitVec 32 := 8#32
  let v271 : BitVec 1 := Scalar.cmpi .slt v270 c8_i32_183
  let v272 : BitVec 32 := Scalar.extui v271
  let c0_i32_184 : BitVec 32 := 0#32
  let v273 : BitVec 1 := Scalar.cmpi .ne v272 c0_i32_184
  v273

def k0_off16 (i : grid0.Coords) : Fin 4 → Nat :=
  let arg0 : BitVec 32 := BitVec.ofNat 32 (i 0).val
  let c1_i32_373 : BitVec 32 := 1#32
  let v550 : BitVec 32 := Scalar.addi arg0 c1_i32_373
  let c0_i32_379 : BitVec 32 := 0#32
  let c1_i32_374 : BitVec 32 := 1#32
  let c0_i32_380 : BitVec 32 := 0#32
  ![v550.toNat, 0, 1, 0]
def k0_off17 (i : grid0.Coords) : Fin 4 → Nat :=
  let arg0 : BitVec 32 := BitVec.ofNat 32 (i 0).val
  let c0_i32_190 : BitVec 32 := 0#32
  let c2_i32_185 : BitVec 32 := 2#32
  let c0_i32_191 : BitVec 32 := 0#32
  ![arg0.toNat, 0, 2, 0]
def k0_off18 (i : grid0.Coords) : Fin 4 → Nat :=
  let arg0 : BitVec 32 := BitVec.ofNat 32 (i 0).val
  let v310 : Index := Scalar.indexCast arg0
  let c8_213 : Index := 8#32
  let c0_214 : Index := 0#32
  let c0_215 : Index := 0#32
  ![v310.toNat, 8, 0, 0]
def k0_off19 (i : grid0.Coords) : Fin 4 → Nat :=
  let arg0 : BitVec 32 := BitVec.ofNat 32 (i 0).val
  let v336 : Index := Scalar.indexCast arg0
  let c9_230 : Index := 9#32
  let c0_231 : Index := 0#32
  let c0_232 : Index := 0#32
  ![v336.toNat, 9, 0, 0]
def k0_off20 (i : grid0.Coords) : Fin 4 → Nat :=
  let arg0 : BitVec 32 := BitVec.ofNat 32 (i 0).val
  let v362 : Index := Scalar.indexCast arg0
  let c10_247 : Index := 10#32
  let c0_248 : Index := 0#32
  let c0_249 : Index := 0#32
  ![v362.toNat, 10, 0, 0]
def k0_off21 (i : grid0.Coords) : Fin 4 → Nat :=
  let arg0 : BitVec 32 := BitVec.ofNat 32 (i 0).val
  let v388 : Index := Scalar.indexCast arg0
  let c11_264 : Index := 11#32
  let c0_265 : Index := 0#32
  let c0_266 : Index := 0#32
  ![v388.toNat, 11, 0, 0]
def k0_cond5 (i : grid0.Coords) : BitVec 1 :=
  let arg0 : BitVec 32 := BitVec.ofNat 32 (i 0).val
  let c1_i32_267 : BitVec 32 := 1#32
  let v392 : BitVec 32 := Scalar.addi arg0 c1_i32_267
  let c8_i32_268 : BitVec 32 := 8#32
  let v393 : BitVec 1 := Scalar.cmpi .slt v392 c8_i32_268
  let v394 : BitVec 32 := Scalar.extui v393
  let c0_i32_269 : BitVec 32 := 0#32
  let v395 : BitVec 1 := Scalar.cmpi .ne v394 c0_i32_269
  v395

def k0_off22 (i : grid0.Coords) : Fin 4 → Nat :=
  let arg0 : BitVec 32 := BitVec.ofNat 32 (i 0).val
  let c1_i32_373 : BitVec 32 := 1#32
  let v550 : BitVec 32 := Scalar.addi arg0 c1_i32_373
  let c0_i32_379 : BitVec 32 := 0#32
  let c2_i32_374 : BitVec 32 := 2#32
  let c0_i32_380 : BitVec 32 := 0#32
  ![v550.toNat, 0, 2, 0]
def k0_off23 (i : grid0.Coords) : Fin 4 → Nat :=
  let arg0 : BitVec 32 := BitVec.ofNat 32 (i 0).val
  let v432 : Index := Scalar.indexCast arg0
  let c12_298 : Index := 12#32
  let c0_299 : Index := 0#32
  let c0_300 : Index := 0#32
  ![v432.toNat, 12, 0, 0]
def k0_off24 (i : grid0.Coords) : Fin 4 → Nat :=
  let arg0 : BitVec 32 := BitVec.ofNat 32 (i 0).val
  let v458 : Index := Scalar.indexCast arg0
  let c13_315 : Index := 13#32
  let c0_316 : Index := 0#32
  let c0_317 : Index := 0#32
  ![v458.toNat, 13, 0, 0]
def k0_off25 (i : grid0.Coords) : Fin 4 → Nat :=
  let arg0 : BitVec 32 := BitVec.ofNat 32 (i 0).val
  let v484 : Index := Scalar.indexCast arg0
  let c14_332 : Index := 14#32
  let c0_333 : Index := 0#32
  let c0_334 : Index := 0#32
  ![v484.toNat, 14, 0, 0]
def k0_off26 (i : grid0.Coords) : Fin 4 → Nat :=
  let arg0 : BitVec 32 := BitVec.ofNat 32 (i 0).val
  let v510 : Index := Scalar.indexCast arg0
  let c15_349 : Index := 15#32
  let c0_350 : Index := 0#32
  let c0_351 : Index := 0#32
  ![v510.toNat, 15, 0, 0]
def k0_off27 (i : grid0.Coords) : Fin 3 → Nat :=
  let arg0 : BitVec 32 := BitVec.ofNat 32 (i 0).val
  let v515 : Index := Scalar.indexCast arg0
  let c0_352 : Index := 0#32
  let c0_353 : Index := 0#32
  ![v515.toNat, 0, 0]
def k0_off28 (i : grid0.Coords) : Fin 1 → Nat :=
  let arg0 : BitVec 32 := BitVec.ofNat 32 (i 0).val
  ![arg0.toNat]
def k0_off29 (i : grid0.Coords) : Fin 4 → Nat :=
  let arg0 : BitVec 32 := BitVec.ofNat 32 (i 0).val
  let c0_i32_358 : BitVec 32 := 0#32
  let c0_i32_359 : BitVec 32 := 0#32
  let c0_i32_360 : BitVec 32 := 0#32
  ![arg0.toNat, 0, 0, 0]
def k0_dev2 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v519 : BitVec 32 := Scalar.muli v2 c8_i32_354
  let v520 : BitVec 32 := Scalar.addi c0_i32_355 v519
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_356 : BitVec 32 := 4#32
  let v521 : BitVec 32 := Scalar.muli v9 c4_i32_356
  let v522 : BitVec 32 := Scalar.addi v520 v521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v523 : BitVec 32 := Scalar.muli v8 c1_i32_357
  let v524 : BitVec 32 := Scalar.addi v522 v523
  v524.toNat
def k0_off30 (i : grid0.Coords) : Fin 3 → Nat :=
  let arg0 : BitVec 32 := BitVec.ofNat 32 (i 0).val
  let c0_i32_368 : BitVec 32 := 0#32
  let c0_i32_369 : BitVec 32 := 0#32
  ![arg0.toNat, 0, 0]
def k0_dev3 (d0 : Dev nD) : Nat :=
  let c0_i32_365 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_364 : BitVec 32 := 8#32
  let v533 : BitVec 32 := Scalar.muli v2 c8_i32_364
  let v534 : BitVec 32 := Scalar.addi c0_i32_365 v533
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_366 : BitVec 32 := 4#32
  let v535 : BitVec 32 := Scalar.muli v9 c4_i32_366
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v537 : BitVec 32 := Scalar.muli v8 c1_i32_367
  let v538 : BitVec 32 := Scalar.addi v536 v537
  v538.toNat
def k0_cond6 (i : grid0.Coords) : BitVec 1 :=
  let arg0 : BitVec 32 := BitVec.ofNat 32 (i 0).val
  let c7_i32 : BitVec 32 := 7#32
  let v547 : BitVec 1 := Scalar.cmpi .eq arg0 c7_i32
  let v548 : BitVec 32 := Scalar.extui v547
  let c0_i32_372 : BitVec 32 := 0#32
  let v549 : BitVec 1 := Scalar.cmpi .ne v548 c0_i32_372
  v549

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8x8x16x128 : Shape := ⟨4, ![8, 8, 16, 128]⟩
abbrev S8x2048x16x128 : Shape := ⟨4, ![8, 2048, 16, 128]⟩
abbrev S8x16x8x2048 : Shape := ⟨4, ![8, 16, 8, 2048]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S8x16x8x2048, .f32⟩
  | .hbm, ⟨4, _⟩ => ⟨S_, .f32⟩
  | .hbm, ⟨5, _⟩ => ⟨S8x16x8x2048, .f32⟩
  | .hbm, ⟨6, _⟩ => ⟨S8x16x8x2048, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x2048, .f32⟩
  | .hbm, ⟨11, _⟩ => ⟨S8x16x8x2048, .f32⟩
  | .hbm, ⟨12, _⟩ => ⟨S8x16x8x2048, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x2048, .f32⟩
  | .hbm, ⟨17, _⟩ => ⟨S8x16x8x2048, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Body.lean ====
/- The kernel body as a short sequence of repeated pieces: issue a key or value chunk, wait for one, one
   attention head over one chunk, the statistics' store, the two remote copies, the final waits and the
   final combination of one head. -/
module

public import proofs.«01_k».proof.Proof.Gen.KernelIdeal
public import proofs.«01_k».proof.Proof.Gen.KernelIdeal.Skeleton

@[expose] public section

set_option maxRecDepth 65536

noncomputable section

namespace Cert.KernelIdeal.Run

open Idealize.ShloMosaic Idealize.SL.Sem
open Cert.KernelIdeal Cert.KernelIdeal.Gen

variable {F : FTy → Type} [FloatOps F]

/-! ## Views -/

/-- Entry `g` of a four-semaphore array. -/
abbrev sem4 (sm : DmaSems sig S4) (og : Fin 1 → ℕ) (hg : ∀ a, og a + S1.size a ≤ S4.size a) : DmaSem sig :=
  ((sm.slice (Rect.unit (s := S4) og S1.size hg)).squeeze S_ squeezes_S1_S_).sem

/-- Entry `i` of an eight-semaphore array. -/
abbrev sem8 (sm : DmaSems sig S8) (og : Fin 1 → ℕ) (hg : ∀ a, og a + S1.size a ≤ S8.size a) : DmaSem sig :=
  ((sm.slice (Rect.unit (s := S8) og S1.size hg)).squeeze S_ squeezes_S1_S_).sem

/-- One slot of a four-slot key or value scratch buffer. -/
abbrev slotV (m : Memref sig .tc .vmem S4x1024x512 .f32) (o : Fin 3 → ℕ) (h : ∀ a, o a + S1x1024x512.size a ≤ S4x1024x512.size a) :
    Memref sig .tc .vmem S1024x512 .f32 :=
  (m.slice (Rect.unit (s := S4x1024x512) o S1x1024x512.size h) (fun _ => rfl)).squeeze S1024x512 squeezes_S1x1024x512_S1024x512

/-- One chunk (one batch, four heads) of the keys or values in HBM. -/
abbrev chunkV (m : Memref sig .tc .hbm S8x1024x16x128 .f32) (hm : m.IsWhole) (o : Fin 4 → ℕ)
    (h : ∀ a, o a + S1x1024x1x512.size a ≤ S8x1024x4x512.size a) : Memref sig .tc .hbm S1024x512 .f32 :=
  ((m.reshape S8x1024x4x512 reshapes_S8x1024x16x128_S8x1024x4x512.1 reshapes_S8x1024x16x128_S8x1024x4x512.2 hm.contiguous).slice
    (Rect.unit (s := S8x1024x4x512) o S1x1024x1x512.size h) (fun _ => rfl)).squeeze S1024x512 squeezes_S1x1024x1x512_S1024x512

/-- One batch of the partial outputs. -/
abbrev oV (m : Memref sig .tc .vmem S8x16x8x128 .bf16) (o : Fin 4 → ℕ) (h : ∀ a, o a + S1x16x8x128.size a ≤ S8x16x8x128.size a) :
    Memref sig .tc .vmem S16x8x128 .bf16 :=
  (m.slice (Rect.unit (s := S8x16x8x128) o S1x16x8x128.size h) (fun _ => rfl)).squeeze S16x8x128 squeezes_S1x16x8x128_S16x8x128

/-- One batch of the statistics. -/
abbrev stV (m : Memref sig .tc .vmem S8x8x32 .f32) (o : Fin 3 → ℕ) (h : ∀ a, o a + S1x8x32.size a ≤ S8x8x32.size a) :
    Memref sig .tc .vmem S8x32 .f32 :=
  (m.slice (Rect.unit (s := S8x8x32) o S1x8x32.size h) (fun _ => rfl)).squeeze S8x32 squeezes_S1x8x32_S8x32

/-! ## Payloads -/

/-- A head's scores' row maximum. -/
abbrev headM (q : Vec F S1x8x1x128 .f32) (k : Vec F S1x1024x128 .f32) : FVec F S8x1 .f32 := k0_pay44 q k
/-- A head's sum of exponentials. -/
abbrev headL (q : Vec F S1x8x1x128 .f32) (k : Vec F S1x1024x128 .f32) : FVec F S8x1 .f32 := k0_pay46 q k
/-- A head's unnormalised output. -/
abbrev headO (q : Vec F S1x8x1x128 .f32) (k v : Vec F S1x1024x128 .f32) : FVec F S1x1x8x128 .bf16 := k0_pay47 q k v

/-- One head of the combined output from the two weights and the two partial outputs. -/
abbrev combO (o : Fin 3 → ℕ) (h : S8x8x16.Slices o S8x8x1) (w0 w1 : FVec F S8x8x16 .f32) (a b : Vec F S8x1x8x128 .bf16) :
    FVec F S8x8x1x128 .f32 :=
  shapeCast S8x8x1x128
    (addf (mulf (extf .f32 (shapeCast S8x8x128 a shapeCasts_S8x1x8x128_S8x8x128) bitsLt_bf16_f32)
        (broadcastTo S8x8x128 (extractStridedSlice S8x8x1 o w0 h) broadcasts_S8x8x1_S8x8x128))
      (mulf (extf .f32 (shapeCast S8x8x128 b shapeCasts_S8x1x8x128_S8x8x128) bitsLt_bf16_f32)
        (broadcastTo S8x8x128 (extractStridedSlice S8x8x1 o w1 h) broadcasts_S8x8x1_S8x8x128)))
    shapeCasts_S8x8x128_S8x8x1x128

/-- The statistics of the sixteen heads side by side: the maxima, then the sums. -/
abbrev statO (m l : Fin 16 → FVec F S8x1 .f32) : FVec F S1x8x32 .f32 :=
  shapeCast S1x8x32
    (concatenate S8x32 1 [⟨S8x1, m 0⟩, ⟨S8x1, m 1⟩, ⟨S8x1, m 2⟩, ⟨S8x1, m 3⟩, ⟨S8x1, m 4⟩, ⟨S8x1, m 5⟩, ⟨S8x1, m 6⟩, ⟨S8x1, m 7⟩,
      ⟨S8x1, m 8⟩, ⟨S8x1, m 9⟩, ⟨S8x1, m 10⟩, ⟨S8x1, m 11⟩, ⟨S8x1, m 12⟩, ⟨S8x1, m 13⟩, ⟨S8x1, m 14⟩, ⟨S8x1, m 15⟩,
      ⟨S8x1, l 0⟩, ⟨S8x1, l 1⟩, ⟨S8x1, l 2⟩, ⟨S8x1, l 3⟩, ⟨S8x1, l 4⟩, ⟨S8x1, l 5⟩, ⟨S8x1, l 6⟩, ⟨S8x1, l 7⟩,
      ⟨S8x1, l 8⟩, ⟨S8x1, l 9⟩, ⟨S8x1, l 10⟩, ⟨S8x1, l 11⟩, ⟨S8x1, l 12⟩, ⟨S8x1, l 13⟩, ⟨S8x1, l 14⟩, ⟨S8x1, l 15⟩]
      concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x32_d1) shapeCasts_S8x32_S1x8x32

/-! ## Pieces -/

/-- Start the copy of one chunk into a slot. -/
def issueP (src : Memref sig .tc .hbm S8x1024x16x128 .f32) (hsrc : src.IsWhole) (dst : Memref sig .tc .vmem S4x1024x512 .f32)
    (sm : DmaSems sig S4) (og : Fin 1 → ℕ) (hg : ∀ a, og a + S1.size a ≤ S4.size a)
    (od : Fin 3 → ℕ) (hd : ∀ a, od a + S1x1024x512.size a ≤ S4x1024x512.size a)
    (os : Fin 4 → ℕ) (hs : ∀ a, os a + S1x1024x1x512.size a ≤ S8x1024x4x512.size a) : Prog (TpuEff nD τ sig (Elt F) Λ₀ .tc) PUnit :=
  Prog.lift (.enqueueDma (chunkV src hsrc os hs) (.here (slotV dst od hd)) (.dma (sem4 sm og hg))
    ((View.wordExact_bits rfl).reshape _ _) ((View.wordExact_bits rfl).reshape _ _) ⟨Or.inl rfl, trivial⟩)

/-- Wait for the copy of one chunk into a slot. -/
def waitP (src : Memref sig .tc .hbm S8x1024x16x128 .f32) (hsrc : src.IsWhole) (dst : Memref sig .tc .vmem S4x1024x512 .f32)
    (sm : DmaSems sig S4) (og : Fin 1 → ℕ) (hg : ∀ a, og a + S1.size a ≤ S4.size a)
    (od : Fin 3 → ℕ) (hd : ∀ a, od a + S1x1024x512.size a ≤ S4x1024x512.size a)
    (os : Fin 4 → ℕ) (hs : ∀ a, os a + S1x1024x1x512.size a ≤ S8x1024x4x512.size a) : Prog (TpuEff nD τ sig (Elt F) Λ₀ .tc) PUnit :=
  Prog.lift (.waitDma2 (sem4 sm og hg) (chunkV src hsrc os hs) (slotV dst od hd)
    ((View.wordExact_bits rfl).reshape _ _) ((View.wordExact_bits rfl).reshape _ _))

/-- One head: load its queries, keys and values, store its unnormalised output, hand on its statistics. -/
def headP (q : Memref sig .tc .vmem S1x8x16x128 .f32) (kb vb : Memref sig .tc .vmem S4x1024x512 .f32)
    (ob : Memref sig .tc .vmem S8x16x8x128 .bf16) (hob : ob.IsWhole)
    (oq : Fin 4 → ℕ) (hq : ∀ a, oq a + S1x8x1x128.size a ≤ S1x8x16x128.size a)
    (ok : Fin 3 → ℕ) (hk : ∀ a, ok a + S1x1024x128.size a ≤ S4x1024x512.size a)
    (oo : Fin 4 → ℕ) (ho : ∀ a, oo a + S1x1x8x128.size a ≤ S8x16x8x128.size a)
    (hp : (Rect.unit (s := S8x16x8x128) oo S1x1x8x128.size ho).PackedRows (EltTy.packing .bf16)) :
    Prog (TpuEff nD τ sig (Elt F) Λ₀ .tc) (FVec F S8x1 .f32 × FVec F S8x1 .f32) := do
  let vq : Vec F S1x8x1x128 .f32 ← Prog.lift (.load q (Rect.unit (s := S1x8x16x128) oq S1x8x1x128.size hq).toLoadRect (View.loadsAt_vmem h_S1x8x1x128))
  let vk : Vec F S1x1024x128 .f32 ← Prog.lift (.load kb (Rect.unit (s := S4x1024x512) ok S1x1024x128.size hk).toLoadRect (View.loadsAt_vmem h_S1x1024x128))
  let vv : Vec F S1x1024x128 .f32 ← Prog.lift (.load vb (Rect.unit (s := S4x1024x512) ok S1x1024x128.size hk).toLoadRect (View.loadsAt_vmem h_S1x1024x128))
  let _ : Vec F S1x1x8x128 .bf16 ← Prog.lift (.load ob (Rect.unit (s := S8x16x8x128) oo S1x1x8x128.size ho).toLoadRect (View.loadsAt_vmem h_S1x1x8x128))
  Prog.lift (.store ob (Rect.unit (s := S8x16x8x128) oo S1x1x8x128.size ho) (headO vq vk vv) Finset.univ
    (View.stores_vmem h_S1x1x8x128 (hob.storeExact_slice rfl _ hp) (fun _ => rfl)) (.inl rfl))
  pure (headM vq vk, headL vq vk)

/-- Store the statistics of one batch. -/
def statP (sb : Memref sig .tc .vmem S8x8x32 .f32) (o : Fin 3 → ℕ) (h : ∀ a, o a + S1x8x32.size a ≤ S8x8x32.size a)
    (m l : Fin 16 → FVec F S8x1 .f32) : Prog (TpuEff nD τ sig (Elt F) Λ₀ .tc) PUnit := do
  let _ : Vec F S1x8x32 .f32 ← Prog.lift (.load sb (Rect.unit (s := S8x8x32) o S1x8x32.size h).toLoadRect (View.loadsAt_vmem h_S1x8x32))
  Prog.lift (.store sb (Rect.unit (s := S8x8x32) o S1x8x32.size h) (statO m l) Finset.univ (View.stores_vmem_bits_univ h_S1x8x32 rfl) (.inl rfl))

/-- Start the remote copy of one batch's partial outputs. -/
def sendOP (ob rb : Memref sig .tc .vmem S8x16x8x128 .bf16) (hob : ob.IsWhole) (hrb : rb.IsWhole) (ss rs : DmaSems sig S8)
    (os : Fin 1 → ℕ) (hs : ∀ a, os a + S1.size a ≤ S8.size a)
    (o : Fin 4 → ℕ) (h : ∀ a, o a + S1x16x8x128.size a ≤ S8x16x8x128.size a)
    (hw : (Rect.unit (s := S8x16x8x128) o S1x16x8x128.size h).WholeWords (EltTy.packing .bf16)) (e : Dev nD) : Prog (TpuEff nD τ sig (Elt F) Λ₀ .tc) PUnit :=
  Prog.lift (.enqueueDma (oV ob o h) (.remote (Dev.tc e) (oV rb o h) (.dma (sem8 ss os hs))) (.dma (sem8 rs os hs))
    ((hob.wordExact_slice rfl _ hw).reshape _ _) ((hrb.wordExact_slice rfl _ hw).reshape _ _) ⟨⟨rfl, Or.inl rfl⟩, trivial⟩)

/-- Start the remote copy of one batch's statistics. -/
def sendSP (sb rb : Memref sig .tc .vmem S8x8x32 .f32) (ss rs : DmaSems sig S8)
    (os : Fin 1 → ℕ) (hs : ∀ a, os a + S1.size a ≤ S8.size a)
    (o : Fin 3 → ℕ) (h : ∀ a, o a + S1x8x32.size a ≤ S8x8x32.size a) (e : Dev nD) : Prog (TpuEff nD τ sig (Elt F) Λ₀ .tc) PUnit :=
  Prog.lift (.enqueueDma (stV sb o h) (.remote (Dev.tc e) (stV rb o h) (.dma (sem8 ss os hs))) (.dma (sem8 rs os hs))
    ((View.wordExact_bits rfl).reshape _ _) ((View.wordExact_bits rfl).reshape _ _) ⟨⟨rfl, Or.inl rfl⟩, trivial⟩)

/-- Wait for the four copies of one batch: outputs sent, outputs received, statistics sent, statistics received. -/
def drainP (ob rb : Memref sig .tc .vmem S8x16x8x128 .bf16) (hob : ob.IsWhole) (hrb : rb.IsWhole)
    (sb tb : Memref sig .tc .vmem S8x8x32 .f32) (s1 s2 s3 s4 : DmaSems sig S8)
    (os : Fin 1 → ℕ) (hs : ∀ a, os a + S1.size a ≤ S8.size a)
    (o : Fin 4 → ℕ) (h : ∀ a, o a + S1x16x8x128.size a ≤ S8x16x8x128.size a)
    (hw : (Rect.unit (s := S8x16x8x128) o S1x16x8x128.size h).WholeWords (EltTy.packing .bf16))
    (p : Fin 3 → ℕ) (hp : ∀ a, p a + S1x8x32.size a ≤ S8x8x32.size a) : Prog (TpuEff nD τ sig (Elt F) Λ₀ .tc) PUnit := do
  Prog.lift (.waitDma2 (sem8 s1 os hs) (oV rb o h) (oV ob o h)
    ((hrb.wordExact_slice rfl _ hw).reshape _ _) ((hob.wordExact_slice rfl _ hw).reshape _ _))
  Prog.lift (.waitDma2 (sem8 s2 os hs) (oV ob o h) (oV rb o h)
    ((hob.wordExact_slice rfl _ hw).reshape _ _) ((hrb.wordExact_slice rfl _ hw).reshape _ _))
  Prog.lift (.waitDma2 (sem8 s3 os hs) (stV tb p hp) (stV sb p hp)
    ((View.wordExact_bits rfl).reshape _ _) ((View.wordExact_bits rfl).reshape _ _))
  Prog.lift (.waitDma2 (sem8 s4 os hs) (stV sb p hp) (stV tb p hp)
    ((View.wordExact_bits rfl).reshape _ _) ((View.wordExact_bits rfl).reshape _ _))

/-- Combine one head of the two partial outputs into the result. -/
def combP (ob rb : Memref sig .tc .vmem S8x16x8x128 .bf16) (out : Memref sig .tc .vmem S8x8x16x128 .f32)
    (w0 w1 : FVec F S8x8x16 .f32)
    (o : Fin 4 → ℕ) (h : ∀ a, o a + S8x1x8x128.size a ≤ S8x16x8x128.size a)
    (p : Fin 4 → ℕ) (hp : ∀ a, p a + S8x8x1x128.size a ≤ S8x8x16x128.size a)
    (x : Fin 3 → ℕ) (hx : S8x8x16.Slices x S8x8x1) : Prog (TpuEff nD τ sig (Elt F) Λ₀ .tc) PUnit := do
  let a : Vec F S8x1x8x128 .bf16 ← Prog.lift (.load ob (Rect.unit (s := S8x16x8x128) o S8x1x8x128.size h).toLoadRect (View.loadsAt_vmem h_S8x1x8x128))
  let b : Vec F S8x1x8x128 .bf16 ← Prog.lift (.load rb (Rect.unit (s := S8x16x8x128) o S8x1x8x128.size h).toLoadRect (View.loadsAt_vmem h_S8x1x8x128))
  let _ : Vec F S8x8x1x128 .f32 ← Prog.lift (.load out (Rect.unit (s := S8x8x16x128) p S8x8x1x128.size hp).toLoadRect (View.loadsAt_vmem h_S8x8x1x128))
  Prog.lift (.store out (Rect.unit (s := S8x8x16x128) p S8x8x1x128.size hp) (combO x hx w0 w1 a b) Finset.univ
    (View.stores_vmem_bits_univ h_S8x8x1x128 rfl) (.inl rfl))

/-! ## The body at the first, a middle and the last grid point -/

section

variable (i : grid0.Coords) (arg1 : Memref sig .tc .vmem S1x8x16x128 .f32) (harg1 : arg1.IsWhole) (arg2 : Memref sig .tc .hbm S8x1024x16x128 .f32) (harg2 : arg2.IsWhole) (arg3 : Memref sig .tc .hbm S8x1024x16x128 .f32) (harg3 : arg3.IsWhole) (arg4 : Memref sig .tc .vmem S8x8x16x128 .f32) (harg4 : arg4.IsWhole) (arg5 : Memref sig .tc .vmem S4x1024x512 .f32) (harg5 : arg5.IsWhole) (arg6 : Memref sig .tc .vmem S4x1024x512 .f32) (harg6 : arg6.IsWhole) (arg7 : DmaSems sig S4) (arg8 : DmaSems sig S4) (arg9 : Memref sig .tc .vmem S8x16x8x128 .bf16) (harg9 : arg9.IsWhole) (arg10 : Memref sig .tc .vmem S8x8x32 .f32) (harg10 : arg10.IsWhole) (arg11 : Memref sig .tc .vmem S8x16x8x128 .bf16) (harg11 : arg11.IsWhole) (arg12 : Memref sig .tc .vmem S8x8x32 .f32) (harg12 : arg12.IsWhole) (arg13 : DmaSems sig S8) (arg14 : DmaSems sig S8) (arg15 : DmaSems sig S8) (arg16 : DmaSems sig S8)

/-- Start the key and value copies of one chunk into slot `g`. -/
def issue2P (og : Fin 1 → ℕ) (hg : ∀ a, og a + S1.size a ≤ S4.size a)
    (od : Fin 3 → ℕ) (hd : ∀ a, od a + S1x1024x512.size a ≤ S4x1024x512.size a)
    (os : Fin 4 → ℕ) (hs : ∀ a, os a + S1x1024x1x512.size a ≤ S8x1024x4x512.size a) : Prog (TpuEff nD τ sig (Elt F) Λ₀ .tc) PUnit := do
  issueP arg2 harg2 arg5 arg7 og hg od hd os hs
  issueP arg3 harg3 arg6 arg8 og hg od hd os hs

/-- Wait for the key and value copies into slot `g`. -/
def wait2P (og : Fin 1 → ℕ) (hg : ∀ a, og a + S1.size a ≤ S4.size a)
    (od : Fin 3 → ℕ) (hd : ∀ a, od a + S1x1024x512.size a ≤ S4x1024x512.size a)
    (os : Fin 4 → ℕ) (hs : ∀ a, os a + S1x1024x1x512.size a ≤ S8x1024x4x512.size a) : Prog (TpuEff nD τ sig (Elt F) Λ₀ .tc) PUnit := do
  waitP arg2 harg2 arg5 arg7 og hg od hd os hs
  waitP arg3 harg3 arg6 arg8 og hg od hd os hs

/-- The part every grid point runs, with `n0`, `n1`, `n2` the starts of the next batch's chunks. -/
def coreP (d0 : Dev nD) (n0 n1 n2 : Prog (TpuEff nD τ sig (Elt F) Λ₀ .tc) PUnit) : Prog (TpuEff nD τ sig (Elt F) Λ₀ .tc) PUnit := do
  issue2P arg2 harg2 arg3 harg3 arg5 arg6 arg7 arg8 ![3] inb_S4_S1_3 ![3, 0, 0] inb_S4x1024x512_S1x1024x512_3_0_0 (k0_off4 i) (k0_off4_inb i)
  wait2P arg2 harg2 arg3 harg3 arg5 arg6 arg7 arg8 ![0] inb_S4_S1_0 ![0, 0, 0] inb_S4x1024x512_S1x1024x512_0_0_0 (k0_off5 i) (k0_off5_inb i)
  let r0 ← headP arg1 arg5 arg6 arg9 harg9 ![0, 0, 0, 0] inb_S1x8x16x128_S1x8x1x128_0_0_0_0 ![0, 0, 0] inb_S4x1024x512_S1x1024x128_0_0_0 (k0_off6 i) (k0_off6_inb i) (k0_off6_packedbf16 i)
  let r1 ← headP arg1 arg5 arg6 arg9 harg9 ![0, 0, 1, 0] inb_S1x8x16x128_S1x8x1x128_0_0_1_0 ![0, 0, 128] inb_S4x1024x512_S1x1024x128_0_0_128 (k0_off7 i) (k0_off7_inb i) (k0_off7_packedbf16 i)
  let r2 ← headP arg1 arg5 arg6 arg9 harg9 ![0, 0, 2, 0] inb_S1x8x16x128_S1x8x1x128_0_0_2_0 ![0, 0, 256] inb_S4x1024x512_S1x1024x128_0_0_256 (k0_off8 i) (k0_off8_inb i) (k0_off8_packedbf16 i)
  let r3 ← headP arg1 arg5 arg6 arg9 harg9 ![0, 0, 3, 0] inb_S1x8x16x128_S1x8x1x128_0_0_3_0 ![0, 0, 384] inb_S4x1024x512_S1x1024x128_0_0_384 (k0_off9 i) (k0_off9_inb i) (k0_off9_packedbf16 i)
  n0
  wait2P arg2 harg2 arg3 harg3 arg5 arg6 arg7 arg8 ![1] inb_S4_S1_1 ![1, 0, 0] inb_S4x1024x512_S1x1024x512_1_0_0 (k0_off11 i) (k0_off11_inb i)
  let r4 ← headP arg1 arg5 arg6 arg9 harg9 ![0, 0, 4, 0] inb_S1x8x16x128_S1x8x1x128_0_0_4_0 ![1, 0, 0] inb_S4x1024x512_S1x1024x128_1_0_0 (k0_off12 i) (k0_off12_inb i) (k0_off12_packedbf16 i)
  let r5 ← headP arg1 arg5 arg6 arg9 harg9 ![0, 0, 5, 0] inb_S1x8x16x128_S1x8x1x128_0_0_5_0 ![1, 0, 128] inb_S4x1024x512_S1x1024x128_1_0_128 (k0_off13 i) (k0_off13_inb i) (k0_off13_packedbf16 i)
  let r6 ← headP arg1 arg5 arg6 arg9 harg9 ![0, 0, 6, 0] inb_S1x8x16x128_S1x8x1x128_0_0_6_0 ![1, 0, 256] inb_S4x1024x512_S1x1024x128_1_0_256 (k0_off14 i) (k0_off14_inb i) (k0_off14_packedbf16 i)
  let r7 ← headP arg1 arg5 arg6 arg9 harg9 ![0, 0, 7, 0] inb_S1x8x16x128_S1x8x1x128_0_0_7_0 ![1, 0, 384] inb_S4x1024x512_S1x1024x128_1_0_384 (k0_off15 i) (k0_off15_inb i) (k0_off15_packedbf16 i)
  n1
  wait2P arg2 harg2 arg3 harg3 arg5 arg6 arg7 arg8 ![2] inb_S4_S1_2 ![2, 0, 0] inb_S4x1024x512_S1x1024x512_2_0_0 (k0_off17 i) (k0_off17_inb i)
  let r8 ← headP arg1 arg5 arg6 arg9 harg9 ![0, 0, 8, 0] inb_S1x8x16x128_S1x8x1x128_0_0_8_0 ![2, 0, 0] inb_S4x1024x512_S1x1024x128_2_0_0 (k0_off18 i) (k0_off18_inb i) (k0_off18_packedbf16 i)
  let r9 ← headP arg1 arg5 arg6 arg9 harg9 ![0, 0, 9, 0] inb_S1x8x16x128_S1x8x1x128_0_0_9_0 ![2, 0, 128] inb_S4x1024x512_S1x1024x128_2_0_128 (k0_off19 i) (k0_off19_inb i) (k0_off19_packedbf16 i)
  let r10 ← headP arg1 arg5 arg6 arg9 harg9 ![0, 0, 10, 0] inb_S1x8x16x128_S1x8x1x128_0_0_10_0 ![2, 0, 256] inb_S4x1024x512_S1x1024x128_2_0_256 (k0_off20 i) (k0_off20_inb i) (k0_off20_packedbf16 i)
  let r11 ← headP arg1 arg5 arg6 arg9 harg9 ![0, 0, 11, 0] inb_S1x8x16x128_S1x8x1x128_0_0_11_0 ![2, 0, 384] inb_S4x1024x512_S1x1024x128_2_0_384 (k0_off21 i) (k0_off21_inb i) (k0_off21_packedbf16 i)
  n2
  wait2P arg2 harg2 arg3 harg3 arg5 arg6 arg7 arg8 ![3] inb_S4_S1_3 ![3, 0, 0] inb_S4x1024x512_S1x1024x512_3_0_0 (k0_off4 i) (k0_off4_inb i)
  let r12 ← headP arg1 arg5 arg6 arg9 harg9 ![0, 0, 12, 0] inb_S1x8x16x128_S1x8x1x128_0_0_12_0 ![3, 0, 0] inb_S4x1024x512_S1x1024x128_3_0_0 (k0_off23 i) (k0_off23_inb i) (k0_off23_packedbf16 i)
  let r13 ← headP arg1 arg5 arg6 arg9 harg9 ![0, 0, 13, 0] inb_S1x8x16x128_S1x8x1x128_0_0_13_0 ![3, 0, 128] inb_S4x1024x512_S1x1024x128_3_0_128 (k0_off24 i) (k0_off24_inb i) (k0_off24_packedbf16 i)
  let r14 ← headP arg1 arg5 arg6 arg9 harg9 ![0, 0, 14, 0] inb_S1x8x16x128_S1x8x1x128_0_0_14_0 ![3, 0, 256] inb_S4x1024x512_S1x1024x128_3_0_256 (k0_off25 i) (k0_off25_inb i) (k0_off25_packedbf16 i)
  let r15 ← headP arg1 arg5 arg6 arg9 harg9 ![0, 0, 15, 0] inb_S1x8x16x128_S1x8x1x128_0_0_15_0 ![3, 0, 384] inb_S4x1024x512_S1x1024x128_3_0_384 (k0_off26 i) (k0_off26_inb i) (k0_off26_packedbf16 i)
  statP arg10 (k0_off27 i) (k0_off27_inb i) ![r0.1, r1.1, r2.1, r3.1, r4.1, r5.1, r6.1, r7.1, r8.1, r9.1, r10.1, r11.1, r12.1, r13.1, r14.1, r15.1] ![r0.2, r1.2, r2.2, r3.2, r4.2, r5.2, r6.2, r7.2, r8.2, r9.2, r10.2, r11.2, r12.2, r13.2, r14.2, r15.2]
  sendOP arg9 arg11 harg9 harg11 arg13 arg14 (k0_off28 i) (k0_off28_inb i) (k0_off29 i) (k0_off29_inb i) (k0_off29_wordsbf16 i) ⟨k0_dev2 d0, k0_dev2_lt d0⟩
  sendSP arg10 arg12 arg15 arg16 (k0_off28 i) (k0_off28_inb i) (k0_off30 i) (k0_off30_inb i) ⟨k0_dev3 d0, k0_dev3_lt d0⟩

/-- The final waits and combination, run at the last grid point. -/
def finP : Prog (TpuEff nD τ sig (Elt F) Λ₀ .tc) PUnit := do
  drainP arg9 arg11 harg9 harg11 arg10 arg12 arg13 arg14 arg15 arg16 ![0] inb_S8_S1_0 ![0, 0, 0, 0] inb_S8x16x8x128_S1x16x8x128_0_0_0_0 wordsbf16_S8x16x8x128_S1x16x8x128_0_0_0_0 ![0, 0, 0] inb_S8x8x32_S1x8x32_0_0_0
  drainP arg9 arg11 harg9 harg11 arg10 arg12 arg13 arg14 arg15 arg16 ![1] inb_S8_S1_1 ![1, 0, 0, 0] inb_S8x16x8x128_S1x16x8x128_1_0_0_0 wordsbf16_S8x16x8x128_S1x16x8x128_1_0_0_0 ![1, 0, 0] inb_S8x8x32_S1x8x32_1_0_0
  drainP arg9 arg11 harg9 harg11 arg10 arg12 arg13 arg14 arg15 arg16 ![2] inb_S8_S1_2 ![2, 0, 0, 0] inb_S8x16x8x128_S1x16x8x128_2_0_0_0 wordsbf16_S8x16x8x128_S1x16x8x128_2_0_0_0 ![2, 0, 0] inb_S8x8x32_S1x8x32_2_0_0
  drainP arg9 arg11 harg9 harg11 arg10 arg12 arg13 arg14 arg15 arg16 ![3] inb_S8_S1_3 ![3, 0, 0, 0] inb_S8x16x8x128_S1x16x8x128_3_0_0_0 wordsbf16_S8x16x8x128_S1x16x8x128_3_0_0_0 ![3, 0, 0] inb_S8x8x32_S1x8x32_3_0_0
  drainP arg9 arg11 harg9 harg11 arg10 arg12 arg13 arg14 arg15 arg16 ![4] inb_S8_S1_4 ![4, 0, 0, 0] inb_S8x16x8x128_S1x16x8x128_4_0_0_0 wordsbf16_S8x16x8x128_S1x16x8x128_4_0_0_0 ![4, 0, 0] inb_S8x8x32_S1x8x32_4_0_0
  drainP arg9 arg11 harg9 harg11 arg10 arg12 arg13 arg14 arg15 arg16 ![5] inb_S8_S1_5 ![5, 0, 0, 0] inb_S8x16x8x128_S1x16x8x128_5_0_0_0 wordsbf16_S8x16x8x128_S1x16x8x128_5_0_0_0 ![5, 0, 0] inb_S8x8x32_S1x8x32_5_0_0
  drainP arg9 arg11 harg9 harg11 arg10 arg12 arg13 arg14 arg15 arg16 ![6] inb_S8_S1_6 ![6, 0, 0, 0] inb_S8x16x8x128_S1x16x8x128_6_0_0_0 wordsbf16_S8x16x8x128_S1x16x8x128_6_0_0_0 ![6, 0, 0] inb_S8x8x32_S1x8x32_6_0_0
  drainP arg9 arg11 harg9 harg11 arg10 arg12 arg13 arg14 arg15 arg16 ![7] inb_S8_S1_7 ![7, 0, 0, 0] inb_S8x16x8x128_S1x16x8x128_7_0_0_0 wordsbf16_S8x16x8x128_S1x16x8x128_7_0_0_0 ![7, 0, 0] inb_S8x8x32_S1x8x32_7_0_0
  let m0 : Vec F S8x8x16 .f32 ← Prog.lift (.load arg10 (Rect.unit (s := S8x8x32) ![0, 0, 0] S8x8x16.size inb_S8x8x32_S8x8x16_0_0_0).toLoadRect (View.loadsAt_vmem h_S8x8x16))
  let l0 : Vec F S8x8x16 .f32 ← Prog.lift (.load arg10 (Rect.unit (s := S8x8x32) ![0, 0, 16] S8x8x16.size inb_S8x8x32_S8x8x16_0_0_16).toLoadRect (View.loadsAt_vmem h_S8x8x16))
  let m1 : Vec F S8x8x16 .f32 ← Prog.lift (.load arg12 (Rect.unit (s := S8x8x32) ![0, 0, 0] S8x8x16.size inb_S8x8x32_S8x8x16_0_0_0).toLoadRect (View.loadsAt_vmem h_S8x8x16))
  let l1 : Vec F S8x8x16 .f32 ← Prog.lift (.load arg12 (Rect.unit (s := S8x8x32) ![0, 0, 16] S8x8x16.size inb_S8x8x32_S8x8x16_0_0_16).toLoadRect (View.loadsAt_vmem h_S8x8x16))
  combP arg9 arg11 arg4 (k0_pay7 m0 l0 m1 l1) (k0_pay8 m0 l0 m1 l1) ![0, 0, 0, 0] inb_S8x16x8x128_S8x1x8x128_0_0_0_0 ![0, 0, 0, 0] inb_S8x8x16x128_S8x8x1x128_0_0_0_0 ![0, 0, 0] slices_S8x8x16_o0_0_0_S8x8x1
  combP arg9 arg11 arg4 (k0_pay7 m0 l0 m1 l1) (k0_pay8 m0 l0 m1 l1) ![0, 1, 0, 0] inb_S8x16x8x128_S8x1x8x128_0_1_0_0 ![0, 0, 1, 0] inb_S8x8x16x128_S8x8x1x128_0_0_1_0 ![0, 0, 1] slices_S8x8x16_o0_0_1_S8x8x1
  combP arg9 arg11 arg4 (k0_pay7 m0 l0 m1 l1) (k0_pay8 m0 l0 m1 l1) ![0, 2, 0, 0] inb_S8x16x8x128_S8x1x8x128_0_2_0_0 ![0, 0, 2, 0] inb_S8x8x16x128_S8x8x1x128_0_0_2_0 ![0, 0, 2] slices_S8x8x16_o0_0_2_S8x8x1
  combP arg9 arg11 arg4 (k0_pay7 m0 l0 m1 l1) (k0_pay8 m0 l0 m1 l1) ![0, 3, 0, 0] inb_S8x16x8x128_S8x1x8x128_0_3_0_0 ![0, 0, 3, 0] inb_S8x8x16x128_S8x8x1x128_0_0_3_0 ![0, 0, 3] slices_S8x8x16_o0_0_3_S8x8x1
  combP arg9 arg11 arg4 (k0_pay7 m0 l0 m1 l1) (k0_pay8 m0 l0 m1 l1) ![0, 4, 0, 0] inb_S8x16x8x128_S8x1x8x128_0_4_0_0 ![0, 0, 4, 0] inb_S8x8x16x128_S8x8x1x128_0_0_4_0 ![0, 0, 4] slices_S8x8x16_o0_0_4_S8x8x1
  combP arg9 arg11 arg4 (k0_pay7 m0 l0 m1 l1) (k0_pay8 m0 l0 m1 l1) ![0, 5, 0, 0] inb_S8x16x8x128_S8x1x8x128_0_5_0_0 ![0, 0, 5, 0] inb_S8x8x16x128_S8x8x1x128_0_0_5_0 ![0, 0, 5] slices_S8x8x16_o0_0_5_S8x8x1
  combP arg9 arg11 arg4 (k0_pay7 m0 l0 m1 l1) (k0_pay8 m0 l0 m1 l1) ![0, 6, 0, 0] inb_S8x16x8x128_S8x1x8x128_0_6_0_0 ![0, 0, 6, 0] inb_S8x8x16x128_S8x8x1x128_0_0_6_0 ![0, 0, 6] slices_S8x8x16_o0_0_6_S8x8x1
  combP arg9 arg11 arg4 (k0_pay7 m0 l0 m1 l1) (k0_pay8 m0 l0 m1 l1) ![0, 7, 0, 0] inb_S8x16x8x128_S8x1x8x128_0_7_0_0 ![0, 0, 7, 0] inb_S8x8x16x128_S8x8x1x128_0_0_7_0 ![0, 0, 7] slices_S8x8x16_o0_0_7_S8x8x1
  combP arg9 arg11 arg4 (k0_pay7 m0 l0 m1 l1) (k0_pay8 m0 l0 m1 l1) ![0, 8, 0, 0] inb_S8x16x8x128_S8x1x8x128_0_8_0_0 ![0, 0, 8, 0] inb_S8x8x16x128_S8x8x1x128_0_0_8_0 ![0, 0, 8] slices_S8x8x16_o0_0_8_S8x8x1
  combP arg9 arg11 arg4 (k0_pay7 m0 l0 m1 l1) (k0_pay8 m0 l0 m1 l1) ![0, 9, 0, 0] inb_S8x16x8x128_S8x1x8x128_0_9_0_0 ![0, 0, 9, 0] inb_S8x8x16x128_S8x8x1x128_0_0_9_0 ![0, 0, 9] slices_S8x8x16_o0_0_9_S8x8x1
  combP arg9 arg11 arg4 (k0_pay7 m0 l0 m1 l1) (k0_pay8 m0 l0 m1 l1) ![0, 10, 0, 0] inb_S8x16x8x128_S8x1x8x128_0_10_0_0 ![0, 0, 10, 0] inb_S8x8x16x128_S8x8x1x128_0_0_10_0 ![0, 0, 10] slices_S8x8x16_o0_0_10_S8x8x1
  combP arg9 arg11 arg4 (k0_pay7 m0 l0 m1 l1) (k0_pay8 m0 l0 m1 l1) ![0, 11, 0, 0] inb_S8x16x8x128_S8x1x8x128_0_11_0_0 ![0, 0, 11, 0] inb_S8x8x16x128_S8x8x1x128_0_0_11_0 ![0, 0, 11] slices_S8x8x16_o0_0_11_S8x8x1
  combP arg9 arg11 arg4 (k0_pay7 m0 l0 m1 l1) (k0_pay8 m0 l0 m1 l1) ![0, 12, 0, 0] inb_S8x16x8x128_S8x1x8x128_0_12_0_0 ![0, 0, 12, 0] inb_S8x8x16x128_S8x8x1x128_0_0_12_0 ![0, 0, 12] slices_S8x8x16_o0_0_12_S8x8x1
  combP arg9 arg11 arg4 (k0_pay7 m0 l0 m1 l1) (k0_pay8 m0 l0 m1 l1) ![0, 13, 0, 0] inb_S8x16x8x128_S8x1x8x128_0_13_0_0 ![0, 0, 13, 0] inb_S8x8x16x128_S8x8x1x128_0_0_13_0 ![0, 0, 13] slices_S8x8x16_o0_0_13_S8x8x1
  combP arg9 arg11 arg4 (k0_pay7 m0 l0 m1 l1) (k0_pay8 m0 l0 m1 l1) ![0, 14, 0, 0] inb_S8x16x8x128_S8x1x8x128_0_14_0_0 ![0, 0, 14, 0] inb_S8x8x16x128_S8x8x1x128_0_0_14_0 ![0, 0, 14] slices_S8x8x16_o0_0_14_S8x8x1
  combP arg9 arg11 arg4 (k0_pay7 m0 l0 m1 l1) (k0_pay8 m0 l0 m1 l1) ![0, 15, 0, 0] inb_S8x16x8x128_S8x1x8x128_0_15_0_0 ![0, 0, 15, 0] inb_S8x8x16x128_S8x8x1x128_0_0_15_0 ![0, 0, 15] slices_S8x8x16_o0_0_15_S8x8x1

/-- The body at the first grid point. -/
def firstP (h1 : k0_cond1 i = 1#1) (h2 : k0_cond2 i = 1#1) (h3 : k0_cond3 i = 1#1) (h4 : k0_cond4 i = 1#1) (h5 : k0_cond5 i = 1#1) : Prog (TpuEff nD τ sig (Elt F) Λ₀ .tc) PUnit := do
  let d0 : Dev nD ← Prog.lift .deviceId
  semSignalWord (⟨k0_dev1 d0, k0_dev1_lt i d0 h1⟩ : Dev nD) (SemArray.scalar (sig.barrier 0 rfl) : Sems sig S_).sem 1#32
  semWaitWord (SemArray.scalar (sig.barrier 0 rfl) : Sems sig S_).sem 1#32
  issue2P arg2 harg2 arg3 harg3 arg5 arg6 arg7 arg8 ![0] inb_S4_S1_0 ![0, 0, 0] inb_S4x1024x512_S1x1024x512_0_0_0 (k0_off1 i) (k0_off1_inb i h2)
  issue2P arg2 harg2 arg3 harg3 arg5 arg6 arg7 arg8 ![1] inb_S4_S1_1 ![1, 0, 0] inb_S4x1024x512_S1x1024x512_1_0_0 (k0_off2 i) (k0_off2_inb i h2)
  issue2P arg2 harg2 arg3 harg3 arg5 arg6 arg7 arg8 ![2] inb_S4_S1_2 ![2, 0, 0] inb_S4x1024x512_S1x1024x512_2_0_0 (k0_off3 i) (k0_off3_inb i h2)
  coreP i arg1 arg2 harg2 arg3 harg3 arg5 arg6 arg7 arg8 arg9 harg9 arg10 arg11 harg11 arg12 arg13 arg14 arg15 arg16 d0
    (issue2P arg2 harg2 arg3 harg3 arg5 arg6 arg7 arg8 ![0] inb_S4_S1_0 ![0, 0, 0] inb_S4x1024x512_S1x1024x512_0_0_0 (k0_off10 i) (k0_off10_inb i h3))
    (issue2P arg2 harg2 arg3 harg3 arg5 arg6 arg7 arg8 ![1] inb_S4_S1_1 ![1, 0, 0] inb_S4x1024x512_S1x1024x512_1_0_0 (k0_off16 i) (k0_off16_inb i h4))
    (issue2P arg2 harg2 arg3 harg3 arg5 arg6 arg7 arg8 ![2] inb_S4_S1_2 ![2, 0, 0] inb_S4x1024x512_S1x1024x512_2_0_0 (k0_off22 i) (k0_off22_inb i h5))

/-- The body at a middle grid point. -/
def midP (h3 : k0_cond3 i = 1#1) (h4 : k0_cond4 i = 1#1) (h5 : k0_cond5 i = 1#1) : Prog (TpuEff nD τ sig (Elt F) Λ₀ .tc) PUnit := do
  let d0 : Dev nD ← Prog.lift .deviceId
  coreP i arg1 arg2 harg2 arg3 harg3 arg5 arg6 arg7 arg8 arg9 harg9 arg10 arg11 harg11 arg12 arg13 arg14 arg15 arg16 d0
    (issue2P arg2 harg2 arg3 harg3 arg5 arg6 arg7 arg8 ![0] inb_S4_S1_0 ![0, 0, 0] inb_S4x1024x512_S1x1024x512_0_0_0 (k0_off10 i) (k0_off10_inb i h3))
    (issue2P arg2 harg2 arg3 harg3 arg5 arg6 arg7 arg8 ![1] inb_S4_S1_1 ![1, 0, 0] inb_S4x1024x512_S1x1024x512_1_0_0 (k0_off16 i) (k0_off16_inb i h4))
    (issue2P arg2 harg2 arg3 harg3 arg5 arg6 arg7 arg8 ![2] inb_S4_S1_2 ![2, 0, 0] inb_S4x1024x512_S1x1024x512_2_0_0 (k0_off22 i) (k0_off22_inb i h5))

/-- The body at the last grid point. -/
def lastP : Prog (TpuEff nD τ sig (Elt F) Λ₀ .tc) PUnit := do
  let d0 : Dev nD ← Prog.lift .deviceId
  coreP i arg1 arg2 harg2 arg3 harg3 arg5 arg6 arg7 arg8 arg9 harg9 arg10 arg11 harg11 arg12 arg13 arg14 arg15 arg16 d0 (pure ⟨⟩) (pure ⟨⟩) (pure ⟨⟩)
  finP arg4 arg9 harg9 arg10 arg11 harg11 arg12 arg13 arg14 arg15 arg16

/-- The printed body is that sequence of pieces. -/
theorem body_mid (h1 : ¬ k0_cond1 i = 1#1) (h2 : ¬ k0_cond2 i = 1#1) (h3 : k0_cond3 i = 1#1) (h4 : k0_cond4 i = 1#1) (h5 : k0_cond5 i = 1#1) (h6 : ¬ k0_cond6 i = 1#1) :
    cc0_body (F := F) i arg1 harg1 arg2 harg2 arg3 harg3 arg4 harg4 arg5 harg5 arg6 harg6 arg7 arg8 arg9 harg9 arg10 harg10 arg11 harg11 arg12 harg12 arg13 arg14 arg15 arg16 = midP i arg1 arg2 harg2 arg3 harg3 arg5 arg6 arg7 arg8 arg9 harg9 arg10 arg11 harg11 arg12 arg13 arg14 arg15 arg16 h3 h4 h5 := by
  rw [cc0_body_eq_skeleton]
  simp -zeta only [cc0_body_skel, k0_part21_eq_skeleton, k0_part21_skel, k0_part25_eq_skeleton, k0_part25_skel, k0_part29_eq_skeleton, k0_part29_skel, k0_part32_eq_skeleton, k0_part32_skel, dif_neg h1, dif_neg h2, dif_pos h3, dif_pos h4, dif_pos h5, dif_neg h6]
  simp only [dif_neg h6]
  rfl

/-- The printed body is that sequence of pieces. -/
theorem body_first (h1 : k0_cond1 i = 1#1) (h2 : k0_cond2 i = 1#1) (h3 : k0_cond3 i = 1#1) (h4 : k0_cond4 i = 1#1) (h5 : k0_cond5 i = 1#1) (h6 : ¬ k0_cond6 i = 1#1) :
    cc0_body (F := F) i arg1 harg1 arg2 harg2 arg3 harg3 arg4 harg4 arg5 harg5 arg6 harg6 arg7 arg8 arg9 harg9 arg10 harg10 arg11 harg11 arg12 harg12 arg13 arg14 arg15 arg16 = firstP i arg1 arg2 harg2 arg3 harg3 arg5 arg6 arg7 arg8 arg9 harg9 arg10 arg11 harg11 arg12 arg13 arg14 arg15 arg16 h1 h2 h3 h4 h5 := by
  rw [cc0_body_eq_skeleton]
  simp -zeta only [cc0_body_skel, k0_part21_eq_skeleton, k0_part21_skel, k0_part25_eq_skeleton, k0_part25_skel, k0_part29_eq_skeleton, k0_part29_skel, k0_part32_eq_skeleton, k0_part32_skel, dif_pos h1, dif_pos h2, dif_pos h3, dif_pos h4, dif_pos h5, dif_neg h6]
  simp only [dif_neg h6]
  rfl

/-- The printed body is that sequence of pieces. -/
theorem body_last (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) :
    cc0_body (F := F) i arg1 harg1 arg2 harg2 arg3 harg3 arg4 harg4 arg5 harg5 arg6 harg6 arg7 arg8 arg9 harg9 arg10 harg10 arg11 harg11 arg12 harg12 arg13 arg14 arg15 arg16 = lastP i arg1 arg2 harg2 arg3 harg3 arg4 arg5 arg6 arg7 arg8 arg9 harg9 arg10 arg11 harg11 arg12 arg13 arg14 arg15 arg16 := by
  rw [cc0_body_eq_skeleton]
  simp -zeta only [cc0_body_skel, k0_part21_eq_skeleton, k0_part21_skel, k0_part25_eq_skeleton, k0_part25_skel, k0_part29_eq_skeleton, k0_part29_skel, k0_part32_eq_skeleton, k0_part32_skel, dif_neg h1, dif_neg h2, dif_neg h3, dif_neg h4, dif_neg h5, dif_pos h6]
  simp only [dif_pos h6]
  rfl

end

end Cert.KernelIdeal.Run

end
-- ==== Proof.Common.lean ====
/- The exchange between paired devices, as a schedule: one round per cell. A device's barrier cell is paid by its
   partner, with the partner's receive buffers; a send or receive cell by one remote copy of one batch. -/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

/-! ## The resource algebra: the pipeline's rounds, the exchange's rounds, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-! ## The partner -/

set_option backward.proofsInPublic true in
/-- The device holding the other half of the keys. -/
def peer (c : Dev nD) : Dev nD := ⟨(8 * (c.val / 8) + (c.val % 4) + 4) - 4 * ((c.val / 4) % 2), by revert c; decide⟩

theorem peer_peer (c : Dev nD) : peer (peer c) = c := by revert c; decide
theorem peer_ne (c : Dev nD) : peer c ≠ c := by revert c; decide
/-- The pairing of the devices. -/
def pairing : Dev nD ≃ Dev nD := ⟨peer, peer, peer_peer, peer_peer⟩

theorem dev1_eq (c : Dev nD) (h : k0_dev1 c < nD) : (⟨k0_dev1 c, h⟩ : Dev nD) = peer c := Fin.ext (k0_dev1_eq c)
theorem dev2_eq (c : Dev nD) (h : k0_dev2 c < nD) : (⟨k0_dev2 c, h⟩ : Dev nD) = peer c := Fin.ext (k0_dev2_eq c)
theorem dev3_eq (c : Dev nD) (h : k0_dev3 c < nD) : (⟨k0_dev3 c, h⟩ : Dev nD) = peer c := Fin.ext (k0_dev3_eq c)

/-! ## Memrefs -/

abbrev argK : Memref sig .tc .hbm S8x1024x16x128 .f32 := Memref.whole main_arg1
abbrev argV : Memref sig .tc .hbm S8x1024x16x128 .f32 := Memref.whole main_arg2
abbrev bufK : Memref sig .tc .vmem S4x1024x512 .f32 := Memref.whole cc0_scratch0
abbrev bufV : Memref sig .tc .vmem S4x1024x512 .f32 := Memref.whole cc0_scratch1
abbrev oL : Memref sig .tc .vmem S8x16x8x128 .bf16 := Memref.whole cc0_scratch4
abbrev tL : Memref sig .tc .vmem S8x8x32 .f32 := Memref.whole cc0_scratch5
abbrev oR : Memref sig .tc .vmem S8x16x8x128 .bf16 := Memref.whole cc0_scratch6
abbrev tR : Memref sig .tc .vmem S8x8x32 .f32 := Memref.whole cc0_scratch7

theorem inbO : ∀ (i : Fin 8) (a), (![i.val, 0, 0, 0] : Fin 4 → ℕ) a + S1x16x8x128.size a ≤ S8x16x8x128.size a := by decide
theorem inbT : ∀ (i : Fin 8) (a), (![i.val, 0, 0] : Fin 3 → ℕ) a + S1x8x32.size a ≤ S8x8x32.size a := by decide
theorem inb8 : ∀ (i : Fin 8) (a), (![i.val] : Fin 1 → ℕ) a + S1.size a ≤ S8.size a := by decide
theorem inb4 : ∀ (g : Fin 4) (a), (![g.val] : Fin 1 → ℕ) a + S1.size a ≤ S4.size a := by decide
theorem inbSlot : ∀ (g : Fin 4) (a), (![g.val, 0, 0] : Fin 3 → ℕ) a + S1x1024x512.size a ≤ S4x1024x512.size a := by decide
theorem inbChunk : ∀ (b : Fin 8) (g : Fin 4) (a), (![b.val, 0, g.val, 0] : Fin 4 → ℕ) a + S1x1024x1x512.size a ≤ S8x1024x4x512.size a := by decide

/-- Batch `i` of a buffer of partial outputs, of a buffer of statistics. -/
abbrev oAt (b : Memref sig .tc .vmem S8x16x8x128 .bf16) (i : Fin 8) := oV b ![i.val, 0, 0, 0] (inbO i)
abbrev tAt (b : Memref sig .tc .vmem S8x8x32 .f32) (i : Fin 8) := stV b ![i.val, 0, 0] (inbT i)
/-- Slot `g` of a four-slot scratch buffer; chunk `g` of batch `b` of the keys or values. -/
abbrev slotAt (d : Memref sig .tc .vmem S4x1024x512 .f32) (g : Fin 4) := slotV d ![g.val, 0, 0] (inbSlot g)
abbrev chunkAt (s : Memref sig .tc .hbm S8x1024x16x128 .f32) (hs : s.IsWhole) (b : Fin 8) (g : Fin 4) :=
  chunkV s hs ![b.val, 0, g.val, 0] (inbChunk b g)

/-! ## Cells -/

abbrev barS : Sem sig := (SemArray.scalar (sig.barrier 0 rfl) : Sems sig S_).sem
/-- The kinds of copy cells: outputs sent, outputs received, statistics sent, statistics received. -/
abbrev arrS : Fin 4 → DmaSems sig S8 := ![cc0_scratch8, cc0_scratch9, cc0_scratch10, cc0_scratch11]
abbrev CI : Type := Option (Fin 4 × Fin 8)
/-- A device's cells in the exchange: its barrier, and each kind's eight. -/
abbrev csem : CI → SemLoc sig
  | none => .reg barS
  | some (k, i) => .dma (sem8 (arrS k) ![i.val] (inb8 i))
abbrev kcell (c : Dev nD) (k : CI) : GSem nD τ sig := ((c : Thread nD τ), csem k)
abbrev osO (i : Fin 8) : CI := some (0, i)
abbrev rsO (i : Fin 8) : CI := some (1, i)
abbrev osT (i : Fin 8) : CI := some (2, i)
abbrev rsT (i : Fin 8) : CI := some (3, i)

theorem csem_injective : Function.Injective csem := by
  have h : ∀ a b : CI, csem a = csem b → a = b := by decide +kernel
  exact fun a b e => h a b e

/-- The units of a copy of one batch's outputs, of one batch's statistics, of one chunk. -/
abbrev NO : ℕ := 1024
abbrev NT : ℕ := 128
abbrev NK : ℕ := 65536
abbrev amt : CI → ℕ
  | none => 1
  | some (0, _) => NO
  | some (1, _) => NO
  | some (2, _) => NT
  | some (3, _) => NT

theorem amt_pos (k : CI) : 0 < amt k := by revert k; decide

/-! ## Contents -/

/-- Batch `b`'s queries on device `c`. -/
def qB (c : Dev nD) (b : Fin 8) : Vec F S1x8x16x128 .f32 := iblk m c 0 (Fin.cast N_0.symm b)
/-- Head `h`'s queries. -/
def qRd (c : Dev nD) (b : Fin 8) (h : Fin 16) : Vec F S1x8x1x128 .f32 := fun x => qB m c b (ix4 0 (x 1) h (x 3))
/-- One chunk as read from an argument. -/
def chunkR (s : Memref sig .tc .hbm S8x1024x16x128 .f32) (hs : s.IsWhole) (A : s.view.ty.Contents (Elt F)) (b : Fin 8) (g : Fin 4) :
    Vec F S1024x512 .f32 := (chunkAt s hs b g).view.read (Elt F) A
set_option backward.proofsInPublic true in
/-- Head `j` of a chunk. -/
def kvRd (C : Vec F S1024x512 .f32) (j : Fin 4) : Vec F S1x1024x128 .f32 := fun x => C (ix2 (x 1) ⟨128 * j.val + (x 2).val, by
  have h1 : (x 2).val < 128 := (x 2).isLt
  have h2 := j.isLt
  omega⟩)
abbrev Kc (c : Dev nD) : (argK : Memref sig .tc .hbm S8x1024x16x128 .f32).view.ty.Contents (Elt F) := m ((c : Thread nD τ).loc main_arg1)
abbrev Vc (c : Dev nD) : (argV : Memref sig .tc .hbm S8x1024x16x128 .f32).view.ty.Contents (Elt F) := m ((c : Thread nD τ).loc main_arg2)
set_option backward.proofsInPublic true in
/-- The chunk a head lies in, and its place there. -/
def hG (h : Fin 16) : Fin 4 := ⟨h.val / 4, by omega⟩
set_option backward.proofsInPublic true in
def hJ (h : Fin 16) : Fin 4 := ⟨h.val % 4, by omega⟩
def kRd (c : Dev nD) (b : Fin 8) (h : Fin 16) : Vec F S1x1024x128 .f32 := kvRd (chunkR argK (Memref.isWhole_whole _) (Kc m c) b (hG h)) (hJ h)
def vRd (c : Dev nD) (b : Fin 8) (h : Fin 16) : Vec F S1x1024x128 .f32 := kvRd (chunkR argV (Memref.isWhole_whole _) (Vc m c) b (hG h)) (hJ h)
/-- Head `h`'s maxima, sums and unnormalised outputs over device `c`'s keys. -/
def hM (c : Dev nD) (b : Fin 8) (h : Fin 16) : FVec F S8x1 .f32 := headM (qRd m c b h) (kRd m c b h)
def hL (c : Dev nD) (b : Fin 8) (h : Fin 16) : FVec F S8x1 .f32 := headL (qRd m c b h) (kRd m c b h)
def hO (c : Dev nD) (b : Fin 8) (h : Fin 16) : FVec F S1x1x8x128 .bf16 := headO (qRd m c b h) (kRd m c b h) (vRd m c b h)
/-- All the partial outputs of device `c`. -/
def OL (c : Dev nD) : Vec F S8x16x8x128 .bf16 := fun x => hO m c (x 0) (x 1) (ix4 0 0 (x 2) (x 3))
/-- One batch's statistics, and all of them. -/
def tB (c : Dev nD) (b : Fin 8) : FVec F S1x8x32 .f32 := statO (hM m c b) (hL m c b)
def TL (c : Dev nD) : Vec F S8x8x32 .f32 := fun x => tB m c (x 0) (ix3 0 (x 1) (x 2))

/-! ## The pieces of the buffers -/

/-- Batch `i` of device `c`'s buffer `b`, at contents `f`. -/
def oPts (b : Memref sig .tc .vmem S8x16x8x128 .bf16) (c : Dev nD) (i : Fin 8) (f : Buf (Elt F) ((oAt b i).view.loc (c : Thread nD τ))) : sProp 𝕄 :=
  (oAt b i).view.loc (c : Thread nD τ) ↦[(oAt b i).view.set]{fullShare} f
def tPts (b : Memref sig .tc .vmem S8x8x32 .f32) (c : Dev nD) (i : Fin 8) (f : Buf (Elt F) ((tAt b i).view.loc (c : Thread nD τ))) : sProp 𝕄 :=
  (tAt b i).view.loc (c : Thread nD τ) ↦[(tAt b i).view.set]{fullShare} f

instance oPts_storable (b) (c : Dev nD) (i) (f) : BI.Storable (upEmb : UEmb _ 𝕄) (oPts (F := F) b c i f) := by unfold oPts; infer_instance
instance tPts_storable (b) (c : Dev nD) (i) (f) : BI.Storable (upEmb : UEmb _ 𝕄) (tPts (F := F) b c i f) := by unfold tPts; infer_instance

/-- The receive buffers of device `c`, batch by batch, at any contents. -/
def rxAny (c : Dev nD) : sProp 𝕄 := bigSep Finset.univ fun i : Fin 8 => iprop((∃ f, oPts oR c i f) ∗ (∃ f, tPts tR c i f))

/-! ## The schedule -/

/-- What device `c`'s cell `k` hands its owner. -/
def pay (c : Dev nD) : CI → sProp 𝕄
  | none => rxAny (peer c)
  | some (0, i) => oPts oL c i (OL m c)
  | some (1, i) => oPts oR c i (OL m (peer c))
  | some (2, i) => tPts tL c i (TL m c)
  | some (3, i) => tPts tR c i (TL m (peer c))

instance rxAny_storable (c : Dev nD) : BI.Storable (upEmb : UEmb _ 𝕄) (rxAny (F := F) c) := by unfold rxAny; infer_instance
instance pay_storable (c : Dev nD) (k : CI) : BI.Storable (upEmb : UEmb _ 𝕄) (pay (F := F) m c k) := by
  unfold pay
  split <;> infer_instance

abbrev IsCell (g : GSem nD τ sig) : Prop := ∃ k : CI, g.2 = csem k

open Classical in
/-- One round, round 0, one duty per cell. -/
def exch : Rounds.Schedule (GSem nD τ sig) Unit 𝕄 where
  duties g r := if r = 0 ∧ g.1.2 = .tc ∧ IsCell g then {()} else ∅
  unitless _ := False
  amount g _ _ := if h : IsCell g then amt h.choose else 1
  payload g _ _ := if h : IsCell g then pay m g.1.1 h.choose else iprop(emp)
  amount_pos g _ _ _ := by
    by_cases h : IsCell g
    · rw [dif_pos h]; exact amt_pos _
    · rw [dif_neg h]; exact Nat.one_pos

instance exch_payload_storable (g : GSem nD τ sig) (r : ℕ) (d : Unit) :
    BI.Storable (upEmb : UEmb _ 𝕄) ((exch (F := F) m).payload g r d) := by
  unfold exch
  dsimp only
  split <;> infer_instance

theorem isCell (c : Dev nD) (k : CI) : IsCell (kcell c k) := ⟨k, rfl⟩
theorem choose_isCell (c : Dev nD) (k : CI) : (isCell c k).choose = k := csem_injective (isCell c k).choose_spec.symm

theorem duties_cell (c : Dev nD) (k : CI) : (exch (F := F) m).duties (kcell c k) 0 = {()} := by
  dsimp only [exch]; exact if_pos ⟨rfl, rfl, isCell c k⟩
theorem mem_duties (c : Dev nD) (k : CI) : () ∈ (exch (F := F) m).duties (kcell c k) 0 := by
  rw [duties_cell]; exact Finset.mem_singleton_self _
theorem duties_later (g : GSem nD τ sig) : ∀ r, 1 ≤ r → (exch (F := F) m).duties g r = ∅ :=
  fun r hr => by dsimp only [exch]; rw [if_neg fun h => by omega]
theorem amount_cell (c : Dev nD) (k : CI) : (exch (F := F) m).amount (kcell c k) 0 () = amt k := by
  dsimp only [exch]; rw [dif_pos (isCell c k), choose_isCell c k]
theorem payload_cell (c : Dev nD) (k : CI) : (exch (F := F) m).payload (kcell c k) 0 () = pay m c k := by
  dsimp only [exch]; rw [dif_pos (isCell c k), choose_isCell c k]
theorem expect_cell (c : Dev nD) (k : CI) : (exch (F := F) m).expect (kcell c k) 0 = amt k := by
  unfold Schedule.expect Schedule.amountOf; rw [duties_cell, Finset.sum_singleton, amount_cell]
theorem rest_cell (c : Dev nD) (k : CI) :
    bigSep ((exch (F := F) m).duties (kcell c k) 0 \ ∅) (fun d => (exch (F := F) m).payload (kcell c k) 0 d) = pay m c k := by
  rw [Finset.sdiff_empty, duties_cell, bigSep_singleton, payload_cell]

/-! ## What each device owes; the levels -/

/-- The copies from batch `n` on, into the partner's receive cells. -/
def owedR (c : Dev nD) (n : ℕ) : CellTallies nD τ sig Unit :=
  ∑ i ∈ Finset.univ.filter (fun i : Fin 8 => n ≤ i.val), (tallyAt (kcell (peer c) (rsO i)) () NO + tallyAt (kcell (peer c) (rsT i)) () NT)
/-- At launch: those, and one unit on the partner's barrier. -/
def O₀ (c : Dev nD) : CellTallies nD τ sig Unit := owedR c 0 + tallyAt (kcell (peer c) none) () 1

theorem owedR_eight (c : Dev nD) (n : ℕ) (h : 8 ≤ n) : owedR c n = 0 := by
  unfold owedR
  rw [Finset.filter_false_of_mem (fun i _ => by omega), Finset.sum_empty]
theorem owedR_step (c : Dev nD) (i : Fin 8) :
    owedR c i.val = owedR c (i.val + 1) + tallyAt (kcell (peer c) (rsT i)) () NT + tallyAt (kcell (peer c) (rsO i)) () NO := by
  have h : Finset.univ.filter (fun j : Fin 8 => i.val ≤ j.val) = insert i (Finset.univ.filter (fun j : Fin 8 => i.val + 1 ≤ j.val)) := by
    ext j
    simp only [Finset.mem_filter, Finset.mem_univ, true_and, Finset.mem_insert, Fin.ext_iff]
    omega
  unfold owedR
  rw [h, Finset.sum_insert (by simp)]
  rw [add_assoc, add_comm, add_comm (tallyAt (kcell (peer c) (rsT i)) () NT)]

def L (g : GSem nD τ sig) : Finset Unit := if g.1.2 = .tc then {()} else ∅
open Classical in
/-- Receive cells at 2, barrier cells at 1, every other cell at 0. -/
def lv (g : GSem nD τ sig) (_ : Unit) : ℕ :=
  if ∃ i, g.2 = csem (rsO i) ∨ g.2 = csem (rsT i) then 2 else if g.2 = csem none then 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_rsO (c : Dev nD) (i : Fin 8) : lv (kcell c (rsO i)) () = 2 := if_pos ⟨i, .inl rfl⟩
theorem lv_rsT (c : Dev nD) (i : Fin 8) : lv (kcell c (rsT i)) () = 2 := if_pos ⟨i, .inr rfl⟩
theorem lv_bar (c : Dev nD) : lv (kcell c none) () = 1 := by
  unfold lv
  rw [if_neg, if_pos rfl]
  rintro ⟨i, h | h⟩ <;> cases @csem_injective none (some _) h
theorem lv_other (c : Dev nD) (sm : SemLoc sig) (h1 : ∀ i, sm ≠ csem (rsO i)) (h2 : ∀ i, sm ≠ csem (rsT i)) (h3 : sm ≠ csem none) :
    lv ((c : Thread nD τ), sm) () = 0 := by
  unfold lv
  rw [if_neg, if_neg h3]
  rintro ⟨i, h | h⟩
  exacts [h1 i h, h2 i h]

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedR_pos {c : Dev nD} {n : ℕ} {g : GSem nD τ sig} {u : Unit} (h : 0 < owedR c n g u) :
    ∃ i, g = kcell (peer c) (rsO i) ∨ g = kcell (peer c) (rsT i) := by
  unfold owedR at h
  rw [Finset.sum_apply, Finsupp.finset_sum_apply] at h
  obtain ⟨i, -, hi⟩ := Finset.exists_ne_zero_of_sum_ne_zero (Nat.pos_iff_ne_zero.mp h)
  rw [Pi.add_apply, Finsupp.add_apply] at hi
  refine ⟨i, ?_⟩
  rcases Nat.eq_zero_or_pos ((tallyAt (kcell (peer c) (rsO i)) () NO : CellTallies nD τ sig Unit) g u) with h0 | h0
  · right; exact tally_pos (n := NT) (u := u) (by rw [h0] at hi; omega)
  · left; exact tally_pos h0

theorem O₀_pos {c : Dev nD} {g : GSem nD τ sig} {u : Unit} (h : 0 < O₀ c g u) :
    (∃ i, g = kcell (peer c) (rsO i) ∨ g = kcell (peer c) (rsT i)) ∨ g = kcell (peer c) none := by
  unfold O₀ at h
  rw [Pi.add_apply, Finsupp.add_apply] at h
  rcases Nat.eq_zero_or_pos (owedR c 0 g u) with h0 | h0
  · right; exact tally_pos (n := 1) (u := u) (by rw [h0] at h; omega)
  · left; exact owedR_pos h0

/-- A cell below everything owed may be waited on. -/
theorem mayWait_of (c : Dev nD) (q : SemLoc sig) (n : ℕ) (O : CellTallies nD τ sig Unit) (hq : lv ((c : Thread nD τ), q) () ≤ n)
    (hO : ∀ g u, 0 < O g u → () ∈ L g ∧ n < lv g ()) : (levAts L lv : sProp 𝕄) ⊢ MayWait (c : Thread nD τ) q () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hq) (fun g u hg => (hO g u hg).2)

theorem mayWait_owedR (c : Dev nD) (q : SemLoc sig) (n : ℕ) (hq : lv ((c : Thread nD τ), q) () ≤ 1) :
    (levAts L lv : sProp 𝕄) ⊢ MayWait (c : Thread nD τ) q () (owedR c n) :=
  mayWait_of c q 1 _ hq fun g u hg => by
    obtain ⟨i, rfl | rfl⟩ := owedR_pos hg
    · exact ⟨Finset.mem_singleton_self _, by rw [lv_rsO]; decide⟩
    · exact ⟨Finset.mem_singleton_self _, by rw [lv_rsT]; decide⟩

theorem mayWait_O₀ (c : Dev nD) (q : SemLoc sig) (hq : lv ((c : Thread nD τ), q) () = 0) :
    (levAts L lv : sProp 𝕄) ⊢ MayWait (c : Thread nD τ) q () (O₀ c) :=
  mayWait_of c q 0 _ hq.le fun g u hg => by
    obtain ⟨i, rfl | rfl⟩ | rfl := O₀_pos hg
    · exact ⟨Finset.mem_singleton_self _, by rw [lv_rsO]; decide⟩
    · exact ⟨Finset.mem_singleton_self _, by rw [lv_rsT]; decide⟩
    · exact ⟨Finset.mem_singleton_self _, by rw [lv_bar]; decide⟩

end Cert.KernelIdeal.Run

end
-- ==== Proof.Views.lean ====
/- What the loads of the body read and what its stores and copies leave. -/
module

public import proofs.«01_k».proof.Proof.Common

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole write at the place of an index. -/
theorem write_at {sp : Space} {s : Shape} {e : EltTy} (v : View sig .tc sp s e) (f : v.ty.Contents (Elt F)) (w : s.Idx → Elt F e) (y : s.Idx)
    (z : v.ty.Idx) (h : v.emb y = z) : v.write (Elt F) f w Finset.univ z = cast (congrArg (Elt F) v.elt_eq.symm) (w y) := by
  subst h
  exact View.write_emb_of_mem f w (Finset.mem_univ _)

/-! ## The keys and values: slots -/

section
variable (d : Memref sig .tc .vmem S4x1024x512 .f32)

theorem slot_emb (g : Fin 4) (y : S1024x512.Idx) :
    (slotAt d g).view.emb y = d.view.emb ((Rect.unit (s := S4x1024x512) ![g.val, 0, 0] S1x1024x512.size (inbSlot g)).emb (ix3 0 (y 0) (y 1))) := by
  show d.view.emb ((Rect.unit (s := S4x1024x512) ![g.val, 0, 0] S1x1024x512.size (inbSlot g)).emb (Shape.reshapeEquiv _ y)) = _
  rw [ValueIdx.eq_ix2 y]
  exact congrArg _ (congrArg _ (ValueIdx.reshapeEquiv_ix2_1ab _ _ _))

/-- A head's rectangle lies in its slot. -/
theorem kv_sub (g j : Fin 4) {ok : Fin 3 → ℕ} (hk : ∀ a, ok a + S1x1024x128.size a ≤ S4x1024x512.size a)
    (e : ok = ![g.val, 0, 128 * j.val]) :
    d.view.setOn (Rect.unit (s := S4x1024x512) ok S1x1024x128.size hk).toLoadRect.set ⊆ (slotAt d g).view.set := by
  subst e
  rw [View.set_reshape, View.set_slice]
  refine Finset.map_subset_map.mpr fun i hi => ?_
  rw [Rect.mem_set_unit] at hi ⊢
  have h0 := hi 0
  have h1 := hi 1
  have h2 := hi 2
  refine Fin.forall_fin_succ.mpr ⟨h0, Fin.forall_fin_succ.mpr ⟨h1, Fin.forall_fin_succ.mpr ⟨?_, fun a => a.elim0⟩⟩⟩
  exact ⟨Nat.zero_le _, (i 2).isLt.trans_eq (Nat.zero_add 512).symm⟩

/-- A head's keys or values, read from a slot a chunk was copied into. -/
theorem kv_read (g j : Fin 4) {ok : Fin 3 → ℕ} (hk : ∀ a, ok a + S1x1024x128.size a ≤ S4x1024x512.size a)
    (e : ok = ![g.val, 0, 128 * j.val]) (f : d.view.ty.Contents (Elt F)) (C : Vec F S1024x512 .f32) :
    d.view.readAt (Elt F) (Rect.unit (s := S4x1024x512) ok S1x1024x128.size hk).toLoadRect ((slotAt d g).view.write (Elt F) f C Finset.univ) = kvRd C j := by
  subst e
  funext x
  rw [View.readAt_apply, View.read_apply]
  have he : d.view.emb ((Rect.unit (s := S4x1024x512) ![g.val, 0, 128 * j.val] S1x1024x128.size hk).toLoadRect.idx x)
      = (slotAt d g).view.emb (ix2 (x 1) ⟨128 * j.val + (x 2).val, by
          have h1 : (x 2).val < 128 := (x 2).isLt
          have h2 := j.isLt
          omega⟩) := by
    rw [slot_emb]
    refine congrArg _ (funext ?_)
    refine Fin.forall_fin_succ.mpr ⟨Fin.ext ?_, Fin.forall_fin_succ.mpr ⟨Fin.ext ?_, Fin.forall_fin_succ.mpr ⟨Fin.ext ?_, fun a => a.elim0⟩⟩⟩
    · show g.val + 1 * (x 0).val = g.val + 1 * 0
      have h1 : (x 0).val < 1 := (x 0).isLt
      omega
    · show 0 + 1 * (x 1).val = 0 + 1 * (x 1).val
      rfl
    · show 128 * j.val + 1 * (x 2).val = 0 + 1 * (128 * j.val + (x 2).val)
      omega
  rw [he, View.write_emb_of_mem _ _ (Finset.mem_univ _)]
  exact cast_cast _ _ _

end

/-- A head's queries, read from the staged batch. -/
theorem q_read (arg1 : Memref sig .tc .vmem S1x8x16x128 .f32) (h : Fin 16) {oq : Fin 4 → ℕ} (hq : ∀ a, oq a + S1x8x1x128.size a ≤ S1x8x16x128.size a)
    (e : oq = ![0, 0, h.val, 0]) (c : Dev nD) (b : Fin 8) (f : arg1.view.ty.Contents (Elt F)) (hf : arg1.view.read (Elt F) f = qB m c b) :
    arg1.view.readAt (Elt F) (Rect.unit (s := S1x8x16x128) oq S1x8x1x128.size hq).toLoadRect f = qRd m c b h := by
  subst e
  funext x
  rw [View.readAt_apply, hf]
  refine congrArg (qB m c b) (funext ?_)
  refine Fin.forall_fin_succ.mpr ⟨Fin.ext ?_, Fin.forall_fin_succ.mpr ⟨Fin.ext ?_, Fin.forall_fin_succ.mpr ⟨Fin.ext ?_, Fin.forall_fin_succ.mpr ⟨Fin.ext ?_, fun a => a.elim0⟩⟩⟩⟩
  · show 0 + 1 * (x 0).val = 0
    have h1 : (x 0).val < 1 := (x 0).isLt
    omega
  · show 0 + 1 * (x 1).val = (x 1).val
    omega
  · show h.val + 1 * (x 2).val = h.val
    have h1 : (x 2).val < 1 := (x 2).isLt
    omega
  · show 0 + 1 * (x 3).val = (x 3).val
    omega

/-! ## The partial outputs -/

theorem o_emb (b : Memref sig .tc .vmem S8x16x8x128 .bf16) (i : Fin 8) (y : S16x8x128.Idx) :
    (oAt b i).view.emb y = b.view.emb (ix4 i (y 0) (y 1) (y 2)) := by
  show b.view.emb ((Rect.unit (s := S8x16x8x128) ![i.val, 0, 0, 0] S1x16x8x128.size (inbO i)).emb (Shape.reshapeEquiv _ y)) = _
  refine congrArg _ ?_
  rw [ValueIdx.eq_ix3 y]
  refine (congrArg _ (ValueIdx.reshapeEquiv_ix3_1abc _ _ _ _)).trans (funext ?_)
  refine Fin.forall_fin_succ.mpr ⟨Fin.ext ?_, Fin.forall_fin_succ.mpr ⟨Fin.ext ?_, Fin.forall_fin_succ.mpr ⟨Fin.ext ?_, Fin.forall_fin_succ.mpr ⟨Fin.ext ?_, fun a => a.elim0⟩⟩⟩⟩
  · show i.val + 1 * 0 = i.val
    omega
  · show 0 + 1 * (y 0).val = (y 0).val
    omega
  · show 0 + 1 * (y 1).val = (y 1).val
    omega
  · show 0 + 1 * (y 2).val = (y 2).val
    omega

theorem t_emb (b : Memref sig .tc .vmem S8x8x32 .f32) (i : Fin 8) (y : S8x32.Idx) :
    (tAt b i).view.emb y = b.view.emb (ix3 i (y 0) (y 1)) := by
  show b.view.emb ((Rect.unit (s := S8x8x32) ![i.val, 0, 0] S1x8x32.size (inbT i)).emb (Shape.reshapeEquiv _ y)) = _
  refine congrArg _ ?_
  rw [ValueIdx.eq_ix2 y]
  refine (congrArg _ (ValueIdx.reshapeEquiv_ix2_1ab _ _ _)).trans (funext ?_)
  refine Fin.forall_fin_succ.mpr ⟨Fin.ext ?_, Fin.forall_fin_succ.mpr ⟨Fin.ext ?_, Fin.forall_fin_succ.mpr ⟨Fin.ext ?_, fun a => a.elim0⟩⟩⟩
  · show i.val + 1 * 0 = i.val
    omega
  · show 0 + 1 * (y 0).val = (y 0).val
    omega
  · show 0 + 1 * (y 1).val = (y 1).val
    omega

theorem mem_oSet (b : Memref sig .tc .vmem S8x16x8x128 .bf16) (i : Fin 8) (z : b.view.ty.Idx) :
    z ∈ (oAt b i).view.set ↔ ∃ x : S8x16x8x128.Idx, x 0 = i ∧ b.view.emb x = z := by
  unfold View.set
  rw [Finset.mem_map]
  constructor
  · rintro ⟨y, -, rfl⟩
    exact ⟨ix4 i (y 0) (y 1) (y 2), rfl, (o_emb b i y).symm⟩
  · rintro ⟨x, rfl, rfl⟩
    exact ⟨ix3 (x 1) (x 2) (x 3), Finset.mem_univ _, (o_emb b _ _).trans (congrArg _ (ValueIdx.eq_ix4 x).symm)⟩

theorem mem_tSet (b : Memref sig .tc .vmem S8x8x32 .f32) (i : Fin 8) (z : b.view.ty.Idx) :
    z ∈ (tAt b i).view.set ↔ ∃ x : S8x8x32.Idx, x 0 = i ∧ b.view.emb x = z := by
  unfold View.set
  rw [Finset.mem_map]
  constructor
  · rintro ⟨y, -, rfl⟩
    exact ⟨ix3 i (y 0) (y 1), rfl, (t_emb b i y).symm⟩
  · rintro ⟨x, rfl, rfl⟩
    exact ⟨ix2 (x 1) (x 2), Finset.mem_univ _, (t_emb b _ _).trans (congrArg _ (ValueIdx.eq_ix3 x).symm)⟩

theorem mem_slotSet (d : Memref sig .tc .vmem S4x1024x512 .f32) (g : Fin 4) (z : d.view.ty.Idx) :
    z ∈ (slotAt d g).view.set ↔ ∃ x : S4x1024x512.Idx, x 0 = g ∧ d.view.emb x = z := by
  have hs : ∀ y : S1024x512.Idx, (slotAt d g).view.emb y = d.view.emb (ix3 g (y 0) (y 1)) := fun y => by
    rw [slot_emb]
    refine congrArg _ (funext ?_)
    refine Fin.forall_fin_succ.mpr ⟨Fin.ext ?_, Fin.forall_fin_succ.mpr ⟨Fin.ext ?_, Fin.forall_fin_succ.mpr ⟨Fin.ext ?_, fun a => a.elim0⟩⟩⟩
    · show g.val + 1 * 0 = g.val
      omega
    · show 0 + 1 * (y 0).val = (y 0).val
      omega
    · show 0 + 1 * (y 1).val = (y 1).val
      omega
  unfold View.set
  rw [Finset.mem_map]
  constructor
  · rintro ⟨y, -, rfl⟩
    exact ⟨ix3 g (y 0) (y 1), rfl, (hs y).symm⟩
  · rintro ⟨x, rfl, rfl⟩
    exact ⟨ix2 (x 1) (x 2), Finset.mem_univ _, (hs _).trans (congrArg _ (ValueIdx.eq_ix3 x).symm)⟩

/-- The index head `h` of batch `b` stores its output at. -/
theorem oo_emb (b : Fin 8) (h : Fin 16) {oo : Fin 4 → ℕ} (ho : ∀ a, oo a + S1x1x8x128.size a ≤ S8x16x8x128.size a)
    (e : oo = ![b.val, h.val, 0, 0]) (y : S1x1x8x128.Idx) :
    (Rect.unit (s := S8x16x8x128) oo S1x1x8x128.size ho).emb y = ix4 b h (y 2) (y 3) := by
  subst e
  refine funext ?_
  refine Fin.forall_fin_succ.mpr ⟨Fin.ext ?_, Fin.forall_fin_succ.mpr ⟨Fin.ext ?_, Fin.forall_fin_succ.mpr ⟨Fin.ext ?_, Fin.forall_fin_succ.mpr ⟨Fin.ext ?_, fun a => a.elim0⟩⟩⟩⟩
  · show b.val + 1 * (y 0).val = b.val
    have h1 : (y 0).val < 1 := (y 0).isLt
    omega
  · show h.val + 1 * (y 1).val = h.val
    have h1 : (y 1).val < 1 := (y 1).isLt
    omega
  · show 0 + 1 * (y 2).val = (y 2).val
    omega
  · show 0 + 1 * (y 3).val = (y 3).val
    omega

theorem oo_sub (b : Fin 8) (h : Fin 16) {oo : Fin 4 → ℕ} (ho : ∀ a, oo a + S1x1x8x128.size a ≤ S8x16x8x128.size a)
    (e : oo = ![b.val, h.val, 0, 0]) :
    (oL.access (Rect.unit (s := S8x16x8x128) oo S1x1x8x128.size ho)).set ⊆ (oAt oL b).view.set := by
  intro z hz
  obtain ⟨y, -, rfl⟩ := Finset.mem_map.mp hz
  exact (mem_oSet oL b _).mpr ⟨ix4 b h (y 2) (y 3), rfl, (oo_emb b h ho e y).symm⟩

/-- Heads below `n` of batch `b` are done: contents there are the partial outputs. -/
def oDone (c : Dev nD) (b : Fin 8) (n : ℕ) (f : Vec F S8x16x8x128 .bf16) : Prop :=
  ∀ x, x 0 = b → (x 1).val < n → f x = OL m c x

/-- Head `h`'s store adds head `h`. -/
theorem oDone_step (c : Dev nD) (b : Fin 8) (h : Fin 16) {oo : Fin 4 → ℕ} (ho : ∀ a, oo a + S1x1x8x128.size a ≤ S8x16x8x128.size a)
    (e : oo = ![b.val, h.val, 0, 0]) (f : Vec F S8x16x8x128 .bf16) (hf : oDone m c b h.val f) :
    oDone m c b (h.val + 1) ((oL.access (Rect.unit (s := S8x16x8x128) oo S1x1x8x128.size ho)).write (Elt F) f (hO m c b h) Finset.univ) := by
  intro x hx hn
  by_cases h1 : x 1 = h
  · have hx' : (oL.access (Rect.unit (s := S8x16x8x128) oo S1x1x8x128.size ho)).emb (ix4 0 0 (x 2) (x 3)) = x := by
      refine (oo_emb b h ho e _).trans ?_
      rw [← hx, ← h1]
      exact (ValueIdx.eq_ix4 x).symm
    refine Eq.trans (write_at (oL.access (Rect.unit (s := S8x16x8x128) oo S1x1x8x128.size ho)) f (hO m c b h) (ix4 0 0 (x 2) (x 3)) x hx') ?_
    show hO m c b h (ix4 0 0 (x 2) (x 3)) = hO m c (x 0) (x 1) (ix4 0 0 (x 2) (x 3))
    rw [hx, h1]
  · have hne : x ∉ (oL.access (Rect.unit (s := S8x16x8x128) oo S1x1x8x128.size ho)).setOn Finset.univ := by
      intro hz
      obtain ⟨y, -, hy⟩ := Finset.mem_map.mp hz
      exact h1 (by rw [← hy]; exact congrFun (oo_emb b h ho e y) 1)
    rw [View.write_of_not_mem _ _ _ hne]
    refine hf x hx ?_
    have : (x 1).val ≠ h.val := fun e' => h1 (Fin.ext e')
    omega

/-- The store of one batch's statistics. -/
theorem st_emb (b : Fin 8) {o : Fin 3 → ℕ} (ho : ∀ a, o a + S1x8x32.size a ≤ S8x8x32.size a)
    (e : o = ![b.val, 0, 0]) (y : S1x8x32.Idx) :
    (Rect.unit (s := S8x8x32) o S1x8x32.size ho).emb y = ix3 b (y 1) (y 2) := by
  subst e
  refine funext ?_
  refine Fin.forall_fin_succ.mpr ⟨Fin.ext ?_, Fin.forall_fin_succ.mpr ⟨Fin.ext ?_, Fin.forall_fin_succ.mpr ⟨Fin.ext ?_, fun a => a.elim0⟩⟩⟩
  · show b.val + 1 * (y 0).val = b.val
    have h1 : (y 0).val < 1 := (y 0).isLt
    omega
  · show 0 + 1 * (y 1).val = (y 1).val
    omega
  · show 0 + 1 * (y 2).val = (y 2).val
    omega

theorem st_sub (b : Fin 8) {o : Fin 3 → ℕ} (ho : ∀ a, o a + S1x8x32.size a ≤ S8x8x32.size a) (e : o = ![b.val, 0, 0]) :
    (tL.access (Rect.unit (s := S8x8x32) o S1x8x32.size ho)).set ⊆ (tAt tL b).view.set := by
  intro z hz
  obtain ⟨y, -, rfl⟩ := Finset.mem_map.mp hz
  exact (mem_tSet tL b _).mpr ⟨ix3 b (y 1) (y 2), rfl, (st_emb b ho e y).symm⟩

theorem st_write (b : Fin 8) {o : Fin 3 → ℕ} (ho : ∀ a, o a + S1x8x32.size a ≤ S8x8x32.size a) (e : o = ![b.val, 0, 0])
    (f G : Vec F S8x8x32 .f32) (w : Vec F S1x8x32 .f32) (hw : ∀ x : S8x8x32.Idx, x 0 = b → G x = w (ix3 0 (x 1) (x 2))) :
    ∀ z ∈ (tAt tL b).view.set, (tL.access (Rect.unit (s := S8x8x32) o S1x8x32.size ho)).write (Elt F) f w Finset.univ z = G z := by
  intro z hz
  obtain ⟨x, hx, rfl⟩ := (mem_tSet tL b z).mp hz
  have hx' : (tL.access (Rect.unit (s := S8x8x32) o S1x8x32.size ho)).emb (ix3 0 (x 1) (x 2)) = x := by
    refine (st_emb b ho e _).trans ?_
    rw [← hx]
    exact (ValueIdx.eq_ix3 x).symm
  exact Eq.trans (write_at (tL.access (Rect.unit (s := S8x8x32) o S1x8x32.size ho)) f w (ix3 0 (x 1) (x 2)) x hx') (hw x hx).symm

/-- A copy of a batch of outputs leaves the source's contents at the destination. -/
theorem o_copy (i : Fin 8) (fd G : Vec F S8x16x8x128 .bf16) :
    ∀ z ∈ (oAt oR i).view.set, (oAt oR i).view.write (Elt F) fd ((oAt oL i).view.read (Elt F) G) Finset.univ z = G z := by
  intro z hz
  obtain ⟨y, -, rfl⟩ := Finset.mem_map.mp hz
  rw [View.write_emb_of_mem _ _ (Finset.mem_univ _), View.read_apply]
  show G _ = G _
  exact congrArg G ((o_emb oL i y).trans (o_emb oR i y).symm)

theorem t_copy (i : Fin 8) (fd G : Vec F S8x8x32 .f32) :
    ∀ z ∈ (tAt tR i).view.set, (tAt tR i).view.write (Elt F) fd ((tAt tL i).view.read (Elt F) G) Finset.univ z = G z := by
  intro z hz
  obtain ⟨y, -, rfl⟩ := Finset.mem_map.mp hz
  have hf := View.write_emb_of_mem (Val := Elt F) (v := (tAt tR i).view) fd ((tAt tL i).view.read (Elt F) G) (Finset.mem_univ y)
  refine hf.trans ?_
  show G ((tAt tL i).view.emb y) = G ((tAt tR i).view.emb y)
  exact congrArg G ((t_emb tL i y).trans (t_emb tR i y).symm)

end Cert.KernelIdeal.Run

end
-- ==== Proof.Pieces.lean ====
/- One rule for each piece of the body. -/
module

public import proofs.«01_k».proof.Proof.Views

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition of a piece of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, at whatever waits it has recorded. -/
def ow (c : Dev nD) (O : CellTallies nD τ sig Unit) : sProp 𝕄 := iprop(∃ W, owes (c : Thread nD τ) O W)

/-! ## The local copies -/

section Local

variable (s : Memref sig .tc .hbm S8x1024x16x128 .f32) (hs : s.IsWhole) (d : Memref sig .tc .vmem S4x1024x512 .f32) (sm : DmaSems sig S4)
variable (c : Dev nD) (A : s.view.ty.Contents (Elt F))

abbrev slotSem (g : Fin 4) : SemLoc sig := .dma (sem4 sm ![g.val] (inb4 g))

/-- Slot `g` idle: its contents anything, its semaphore at zero, its share of the argument here. -/
def slotFree (g : Fin 4) : sProp 𝕄 :=
  iprop((∃ f, (slotAt d g).view.loc (c : Thread nD τ) ↦[(slotAt d g).view.set]{fullShare} f)
    ∗ semVal ((c : Thread nD τ), slotSem sm g) 0 ∗ (s.view.loc (c : Thread nD τ) ↦[Finset.univ]{Transfers.shareTok fullShare 4 g} A))

/-- Slot `g` being filled with chunk `g` of batch `b`. -/
def slotFly (b : Fin 8) (g : Fin 4) : sProp 𝕄 :=
  iprop((∃ f, Transfers.Flight EC (c : Thread nD τ) (slotSem sm g) () NK
      iprop(((slotAt d g).view.loc (c : Thread nD τ) ↦[(slotAt d g).view.set]{fullShare} (slotAt d g).view.write (Elt F) f (chunkR s hs A b g) Finset.univ)
        ∗ ((chunkAt s hs b g).view.loc (c : Thread nD τ) ↦[(chunkAt s hs b g).view.set]{Transfers.shareTok fullShare 4 g} A)))
    ∗ (s.view.loc (c : Thread nD τ) ↦[Finset.univ \ (chunkAt s hs b g).view.set]{Transfers.shareTok fullShare 4 g} A))

/-- Slot `g` holding a chunk. -/
def slotHas (g : Fin 4) (C : Vec F S1024x512 .f32) : sProp 𝕄 :=
  iprop(∃ f, (slotAt d g).view.loc (c : Thread nD τ) ↦[(slotAt d g).view.set]{fullShare} (slotAt d g).view.write (Elt F) f C Finset.univ)

def slotRest (g : Fin 4) : sProp 𝕄 :=
  iprop(semVal ((c : Thread nD τ), slotSem sm g) 0 ∗ (s.view.loc (c : Thread nD τ) ↦[Finset.univ]{Transfers.shareTok fullShare 4 g} A))

theorem slotFree_of (g : Fin 4) (C : Vec F S1024x512 .f32) : iprop(slotHas d c g C ∗ slotRest s sm c A g) ⊢ slotFree s d sm c A g := by
  unfold slotFree slotHas slotRest
  iintro ⟨⟨%f, Hd⟩, Hv, Hs⟩
  isplitl [Hd]; · iexists _; iexact Hd
  isplitl [Hv] <;> iassumption

variable {og : Fin 1 → ℕ} {hg : ∀ a, og a + S1.size a ≤ S4.size a}
    {od : Fin 3 → ℕ} {hd : ∀ a, od a + S1x1024x512.size a ≤ S4x1024x512.size a}
    {os : Fin 4 → ℕ} {hos : ∀ a, os a + S1x1024x1x512.size a ≤ S8x1024x4x512.size a}

theorem wp_issue (b : Fin 8) (g : Fin 4) (hN : (slotAt d g).view.dmaCredit = NK) (h1 : og = ![g.val]) (h2 : od = ![g.val, 0, 0]) (h3 : os = ![b.val, 0, g.val, 0])
    (Q : PUnit → sProp 𝕄) :
    iprop(slotFree s d sm c A g ∗ (slotFly s hs d sm c A b g -∗ Q ⟨⟩)) ⊢ WP c (issueP s hs d sm og hg od hd os hos) Q := by
  subst h1 h2 h3
  unfold slotFree issueP WP Prog.lift
  iintro ⟨⟨⟨%f, Hd⟩, Hv, Hs⟩, Hk⟩
  ihave H := (pointsTo_split_subset (Finset.subset_univ (chunkAt s hs b g).view.set)).1 $$ Hs
  icases H with ⟨Hs, Hr⟩
  iapply (Transfers.wp_dmaLocal EC 𝒱₀ (c : Thread nD τ) none (src := chunkAt s hs b g) (dst := slotAt d g) (sm := slotSem sm g) () NK hN (by decide) (Finset.Subset.refl _)) $$ [Hs Hd Hv]
  · isplitl [Hs]; · iexact Hs
    isplitl [Hd] <;> iassumption
  iintro HF
  rw [wp_ret]; imodintro
  iapply Hk
  unfold slotFly
  isplitl [HF]; · iexists f; iexact HF
  iexact Hr

theorem wp_wait (b : Fin 8) (g : Fin 4) (hN : (slotAt d g).view.dmaCredit = NK) (h1 : og = ![g.val]) (h2 : od = ![g.val, 0, 0]) (h3 : os = ![b.val, 0, g.val, 0])
    (O : CellTallies nD τ sig Unit) (Q : PUnit → sProp 𝕄) :
    iprop(slotFly s hs d sm c A b g ∗ ow c O ∗ MayWait (c : Thread nD τ) (slotSem sm g) () O
        ∗ ((slotHas d c g (chunkR s hs A b g) ∗ slotRest s sm c A g ∗ ow c O) -∗ Q ⟨⟩))
      ⊢ WP c (waitP s hs d sm og hg od hd os hos) Q := by
  subst h1 h2 h3
  unfold slotFly waitP WP Prog.lift ow
  iintro ⟨⟨⟨%f, HF⟩, Hr⟩, ⟨%W, HO⟩, Hmw, Hk⟩
  iapply (Transfers.wp_waitLocalO EC 𝒱₀ (c : Thread nD τ) none (srcw := chunkAt s hs b g) (dstw := slotAt d g) () hN) $$ [HF HO Hmw]
  · isplitl [HF]; · iexact HF
    isplitl [HO] <;> iassumption
  iintro ⟨⟨Hd, Hs⟩, Hv, HO⟩
  rw [wp_ret]; imodintro
  iapply Hk
  unfold slotHas slotRest
  isplitl [Hd]; · iexists f; iexact Hd
  isplitl [Hv Hs Hr]
  · isplitl [Hv]; · iexact Hv
    iapply (pointsTo_split_subset (Finset.subset_univ (chunkAt s hs b g).view.set)).2
    isplitl [Hs] <;> iassumption
  iexists _; iexact HO

end Local

/-! ## One head -/

/-- Batch `b`'s partial outputs, heads below `n` stored. -/
def oHeads (c : Dev nD) (b : Fin 8) (n : ℕ) : sProp 𝕄 := iprop(∃ f : Vec F S8x16x8x128 .bf16, ⌜oDone m c b n f⌝ ∗ oPts oL c b f)

theorem oHeads_all (c : Dev nD) (b : Fin 8) : oHeads m c b 16 ⊢ oPts oL c b (OL m c) := by
  unfold oHeads oPts
  iintro ⟨%f, %hf, H⟩
  iapply (Entails.of_eq (pointsTo_congr (g := OL m c) (fun z hz => by
    obtain ⟨x, hx, rfl⟩ := (mem_oSet oL b z).mp hz
    exact hf x hx (x 1).isLt))) $$ H

theorem oHeads_none (c : Dev nD) (b : Fin 8) : iprop(∃ f, oPts oL c b f) ⊢ oHeads m c b 0 := by
  unfold oHeads
  iintro ⟨%f, H⟩
  iexists f
  isplitr; · ipureintro; exact fun x _ h => absurd h (Nat.not_lt_zero _)
  iexact H

/-- The staged queries of batch `b`. -/
def qPts (arg1 : Memref sig .tc .vmem S1x8x16x128 .f32) (c : Dev nD) (b : Fin 8) : sProp 𝕄 :=
  owns (c : Thread nD τ) arg1 fullShare (qB m c b)

theorem wp_head (arg1 : Memref sig .tc .vmem S1x8x16x128 .f32) (c : Dev nD) (b : Fin 8) (h : Fin 16)
    {oq : Fin 4 → ℕ} {hq : ∀ a, oq a + S1x8x1x128.size a ≤ S1x8x16x128.size a}
    {ok : Fin 3 → ℕ} {hk : ∀ a, ok a + S1x1024x128.size a ≤ S4x1024x512.size a}
    {oo : Fin 4 → ℕ} {ho : ∀ a, oo a + S1x1x8x128.size a ≤ S8x16x8x128.size a}
    {hp : (Rect.unit (s := S8x16x8x128) oo S1x1x8x128.size ho).PackedRows (EltTy.packing .bf16)}
    {harg9 : oL.IsWhole}
    (h1 : oq = ![0, 0, h.val, 0]) (h2 : ok = ![(hG h).val, 0, 128 * (hJ h).val]) (h3 : oo = ![b.val, h.val, 0, 0])
    (Q : FVec F S8x1 .f32 × FVec F S8x1 .f32 → sProp 𝕄) :
    iprop(qPts m arg1 c b ∗ slotHas bufK c (hG h) (chunkR argK (Memref.isWhole_whole _) (Kc m c) b (hG h))
        ∗ slotHas bufV c (hG h) (chunkR argV (Memref.isWhole_whole _) (Vc m c) b (hG h)) ∗ oHeads m c b h.val
        ∗ ((qPts m arg1 c b ∗ slotHas bufK c (hG h) (chunkR argK (Memref.isWhole_whole _) (Kc m c) b (hG h))
          ∗ slotHas bufV c (hG h) (chunkR argV (Memref.isWhole_whole _) (Vc m c) b (hG h)) ∗ oHeads m c b (h.val + 1))
            -∗ Q (hM m c b h, hL m c b h)))
      ⊢ WP c (headP arg1 bufK bufV oL harg9 oq hq ok hk oo ho hp) Q := by
  unfold qPts owns slotHas oHeads headP WP oPts hM hL kRd
  simp only [Prog.lift, Prog.bind_op, Prog.bind_ret, Prog.pure_eq_ret]
  iintro ⟨⟨%fq, %hfq, Hq⟩, ⟨%fk, Hk⟩, ⟨%fv, Hv⟩, ⟨%fo, %hfo, Ho⟩, Hc⟩
  iapply (wp_load 𝒱₀ (c : Thread nD τ) none Set.univ (m := arg1) (View.setOn_subset_set _ _)) $$ Hq; iintro Hq
  rw [q_read m arg1 h hq h1 c b fq hfq]
  iapply (wp_load 𝒱₀ (c : Thread nD τ) none Set.univ (m := bufK) (kv_sub bufK (hG h) (hJ h) hk h2)) $$ Hk; iintro Hk
  rw [kv_read bufK (hG h) (hJ h) hk h2]
  iapply (wp_load 𝒱₀ (c : Thread nD τ) none Set.univ (m := bufV) (kv_sub bufV (hG h) (hJ h) hk h2)) $$ Hv; iintro Hv
  rw [kv_read bufV (hG h) (hJ h) hk h2]
  iapply (wp_load_rect 𝒱₀ (c : Thread nD τ) none Set.univ (m := oL) (oo_sub b h ho h3)) $$ Ho; iintro Ho
  iapply (wp_store 𝒱₀ (c : Thread nD τ) none Set.univ (m := oL) (Mk := Finset.univ) (oo_sub b h ho h3)) $$ Ho; iintro Ho
  rw [wp_ret]; imodintro
  iapply Hc
  isplitl [Hq]
  · iexists fq
    isplitr; · ipureintro; exact hfq
    iexact Hq
  isplitl [Hk]; · iexists fk; iexact Hk
  isplitl [Hv]; · iexists fv; iexact Hv
  iexists _
  isplitr; · ipureintro; exact oDone_step m c b h ho h3 fo hfo
  iexact Ho

/-- The statistics of one batch. -/
theorem wp_stat (c : Dev nD) (b : Fin 8) {o : Fin 3 → ℕ} {ho : ∀ a, o a + S1x8x32.size a ≤ S8x8x32.size a} (h1 : o = ![b.val, 0, 0])
    (ms ls : Fin 16 → FVec F S8x1 .f32) (hm : ms = hM m c b) (hl : ls = hL m c b) (Q : PUnit → sProp 𝕄) :
    iprop((∃ f, tPts tL c b f) ∗ (tPts tL c b (TL m c) -∗ Q ⟨⟩)) ⊢ WP c (statP tL o ho ms ls) Q := by
  subst hm hl
  unfold statP WP tPts
  simp only [Prog.lift, Prog.bind_op, Prog.bind_ret, Prog.pure_eq_ret]
  iintro ⟨⟨%f, H⟩, Hc⟩
  iapply (wp_load_rect 𝒱₀ (c : Thread nD τ) none Set.univ (m := tL) (st_sub b ho h1)) $$ H; iintro H
  iapply (wp_store 𝒱₀ (c : Thread nD τ) none Set.univ (m := tL) (Mk := Finset.univ) (st_sub b ho h1)) $$ H; iintro H
  rw [wp_ret]; imodintro
  iapply Hc
  iapply (Entails.of_eq (pointsTo_congr (g := TL m c) (st_write b ho h1 f (TL m c) (tB m c b) (fun x hx => by
    show tB m c (x 0) (ix3 0 (x 1) (x 2)) = _
    rw [hx])))) $$ H

end Cert.KernelIdeal.Run

end
-- ==== Proof.Sends.lean ====
/- The remote copies, the final waits, and the combination. -/
module

public import proofs.«01_k».proof.Proof.Pieces

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- One of a family. -/
theorem pick_out {I : Type} [DecidableEq I] {s : Finset I} {i : I} (h : i ∈ s) {Φ : I → sProp 𝕄} : (bigSep s Φ : sProp 𝕄) ⊢ Φ i := bigSep_elim h

/-- Every cell's invariant, and that its round 0 is reached. -/
def records : sProp 𝕄 :=
  bigSep Finset.univ fun p : Dev nD × CI => iprop(cellInv ER (exch m) (K p) (kcell p.1 p.2) ∗ reached ER (kcell p.1 p.2) 0)

instance records_persistent : BI.Persistent (records m K) := by unfold records; infer_instance

theorem inv_at (c : Dev nD) (k : CI) : records m K ⊢ cellInv ER (exch m) (K (c, k)) (kcell c k) := by
  unfold records
  iintro H
  ihave H' := (pick_out (Finset.mem_univ (c, k))) $$ H
  icases H' with ⟨H', -⟩
  iexact H'
theorem reached_at (c : Dev nD) (k : CI) : records m K ⊢ reached ER (kcell c k) 0 := by
  unfold records
  iintro H
  ihave H' := (pick_out (Finset.mem_univ (c, k))) $$ H
  icases H' with ⟨-, H'⟩
  iexact H'

/-- A wait on one of the device's own cells: what was paid into it, and its semaphore at zero. -/
theorem wp_wait_cell (c : Dev nD) (k : CI) {α : Type} {w : TpuEff nD τ sig (Elt F) Λ₀ .tc PUnit} {sm : SemLoc sig} {n : ℕ}
    (hw : ∀ Q : PUnit → sProp 𝕄, wpE (defs₀ (F := F)) 𝒱₀ (c : Thread nD τ) none Set.univ w Q = waitSpec (c : Thread nD τ) Set.univ sm n Q)
    {kt : PUnit → Prog (TpuEff nD τ sig (Elt F) Λ₀ .tc) α} (O : CellTallies nD τ sig Unit) (Q : α → sProp 𝕄) :
    iprop(⌜sm = csem k ∧ n = amt k⌝ ∗ records m K ∗ cred (tallyAt (kcell c k) () (amt k)) ∗ ow c O ∗ MayWait (c : Thread nD τ) (csem k) () O ∗ atPos ER (kcell c k) 0 ∅ 0
        ∗ ((ow c O ∗ pay m c k ∗ semVal (kcell c k) 0) -∗ wp frame (wpE (defs₀ (F := F)) 𝒱₀ (c : Thread nD τ) none) Set.univ (kt ⟨⟩) Q))
      ⊢ wp frame (wpE (defs₀ (F := F)) 𝒱₀ (c : Thread nD τ) none) Set.univ (.op w kt) Q := by
  unfold ow
  iintro ⟨%hsn, #Hr, Hc, ⟨%W, HO⟩, Hmw, Hat, Hk⟩
  obtain ⟨rfl, rfl⟩ := hsn
  ihave #HI := (inv_at m K c k) $$ Hr
  iapply (Rounds.wp_wait_rest_token 𝒱₀ ER (exch m) (c : Thread nD τ) none (κ := K (c, k)) hw (Set.mem_univ _) () (O := O) (W := W) (R := 0) (m := 0) (T := ∅)
      (by rw [Nat.zero_add]; exact (expect_cell m c k).symm)) $$ [Hc HO Hmw Hat]
  · isplitr; · iexact HI
    isplitl [Hc]; · iexact Hc
    isplitl [HO]; · iexact HO
    isplitl [Hmw] <;> iassumption
  iintro ⟨HO, Hat, -, Hpay⟩
  ihave Hp := (Entails.of_eq (rest_cell m c k)) $$ Hpay
  imod (Rounds.cell_close ER (exch m) (Set.mem_univ (K (c, k))) (fun h => h) (R := 0 + 1) (duties_later m (kcell c k))) $$ [Hat] with Hz
  · isplitr; · iexact HI
    iexact Hat
  iapply Hk
  isplitl [HO]; · iexists _; iexact HO
  isplitl [Hp] <;> iassumption

/-- What a copy of a batch leaves at the partner is what the partner's receive cell is paid with. -/
theorem o_pay (c : Dev nD) (i : Fin 8) (f : Vec F S8x16x8x128 .bf16) :
    ((oAt oR i).view.loc (peer c : Thread nD τ) ↦[(oAt oR i).view.set]{fullShare}
      ((oAt oR i).view.write (Elt F) f ((oAt oL i).view.read (Elt F) (OL m c)) Finset.univ) : sProp 𝕄) ⊢ pay m (peer c) (rsO i) := by
  have h : pay m (peer c) (rsO i) = oPts oR (peer c) i (OL m c) := by
    show oPts oR (peer c) i (OL m (peer (peer c))) = _
    rw [peer_peer]
  rw [h]
  unfold oPts
  exact Entails.of_eq (pointsTo_congr (o_copy i f (OL m c)))
theorem t_pay (c : Dev nD) (i : Fin 8) (f : Vec F S8x8x32 .f32) :
    ((tAt tR i).view.loc (peer c : Thread nD τ) ↦[(tAt tR i).view.set]{fullShare}
      ((tAt tR i).view.write (Elt F) f ((tAt tL i).view.read (Elt F) (TL m c)) Finset.univ) : sProp 𝕄) ⊢ pay m (peer c) (rsT i) := by
  have h : pay m (peer c) (rsT i) = tPts tR (peer c) i (TL m c) := by
    show tPts tR (peer c) i (TL m (peer (peer c))) = _
    rw [peer_peer]
  rw [h]
  unfold tPts
  exact Entails.of_eq (pointsTo_congr (t_copy i f (TL m c)))

section Send

variable {os : Fin 1 → ℕ} {hos : ∀ a, os a + S1.size a ≤ S8.size a}

theorem wp_sendO (c : Dev nD) (i : Fin 8) {o : Fin 4 → ℕ} {h : ∀ a, o a + S1x16x8x128.size a ≤ S8x16x8x128.size a}
    {hw : (Rect.unit (s := S8x16x8x128) o S1x16x8x128.size h).WholeWords (EltTy.packing .bf16)} {hob : oL.IsWhole} {hrb : oR.IsWhole} (e : Dev nD)
    (h1 : os = ![i.val]) (h2 : o = ![i.val, 0, 0, 0]) (he : e = peer c) (O : CellTallies nD τ sig Unit) (Q : PUnit → sProp 𝕄) :
    iprop(records m K ∗ oPts oL c i (OL m c) ∗ (∃ f, oPts oR (peer c) i f) ∗ ow c (O + tallyAt (kcell (peer c) (rsO i)) () NO)
        ∗ dutyTok ER (kcell c (osO i)) 0 () ∗ dutyTok ER (kcell (peer c) (rsO i)) 0 ()
        ∗ ((cred (tallyAt (kcell c (osO i)) () NO) ∗ ow c O) -∗ Q ⟨⟩))
      ⊢ WP c (sendOP oL oR hob hrb cc0_scratch8 cc0_scratch9 os hos o h hw e) Q := by
  subst h1 h2 he
  unfold ow sendOP WP Prog.lift oPts
  iintro ⟨#Hr, Hs, ⟨%f, Hd⟩, ⟨%W, HO⟩, Ht1, Ht2, Hk⟩
  iapply (Rounds.wp_send_pointsTo 𝒱₀ ER (exch m) (c : Thread nD τ) none (κ₁ := K (c, osO i)) (κ₂ := K (peer c, rsO i))
    (src := oAt oL i) (dst := oAt oR i) (sS := csem (osO i)) (sem := csem (rsO i)) (c' := (peer c : Thread nD τ))
    (r₁ := 0) (r₂ := 0) (d₁ := ()) (d₂ := ()) (fd := f) (fs := OL m c)
    (mem_duties m c (osO i)) (mem_duties m (peer c) (rsO i))
    () () NO rfl (amount_cell m c (osO i)) (amount_cell m (peer c) (rsO i)) O rfl (W := W)
    (by rw [payload_cell]; exact BI.Entails.refl _)
    (by rw [payload_cell]; exact o_pay m c i f)) $$ [Hs Hd HO Ht1 Ht2]
  · isplitr; · iapply (inv_at m K c (osO i)); iexact Hr
    isplitr; · iapply (inv_at m K (peer c) (rsO i)); iexact Hr
    isplitl [Hs]; · iexact Hs
    isplitl [Hd]; · iexact Hd
    isplitl [HO]; · iexact HO
    isplitl [Ht1]; · iexact Ht1
    isplitr; · iapply (reached_at m K c (osO i)); iexact Hr
    isplitl [Ht2]; · iexact Ht2
    iapply (reached_at m K (peer c) (rsO i)); iexact Hr
  iintro ⟨Hc, HO⟩
  rw [wp_ret]; imodintro
  iapply Hk
  isplitl [Hc]; · iexact Hc
  iexists W; iexact HO

theorem wp_sendS (c : Dev nD) (i : Fin 8) {o : Fin 3 → ℕ} {h : ∀ a, o a + S1x8x32.size a ≤ S8x8x32.size a} (e : Dev nD)
    (h1 : os = ![i.val]) (h2 : o = ![i.val, 0, 0]) (he : e = peer c) (O : CellTallies nD τ sig Unit) (Q : PUnit → sProp 𝕄) :
    iprop(records m K ∗ tPts tL c i (TL m c) ∗ (∃ f, tPts tR (peer c) i f) ∗ ow c (O + tallyAt (kcell (peer c) (rsT i)) () NT)
        ∗ dutyTok ER (kcell c (osT i)) 0 () ∗ dutyTok ER (kcell (peer c) (rsT i)) 0 ()
        ∗ ((cred (tallyAt (kcell c (osT i)) () NT) ∗ ow c O) -∗ Q ⟨⟩))
      ⊢ WP c (sendSP tL tR cc0_scratch10 cc0_scratch11 os hos o h e) Q := by
  subst h1 h2 he
  unfold ow sendSP WP Prog.lift tPts
  iintro ⟨#Hr, Hs, ⟨%f, Hd⟩, ⟨%W, HO⟩, Ht1, Ht2, Hk⟩
  iapply (Rounds.wp_send_pointsTo 𝒱₀ ER (exch m) (c : Thread nD τ) none (κ₁ := K (c, osT i)) (κ₂ := K (peer c, rsT i))
    (src := tAt tL i) (dst := tAt tR i) (sS := csem (osT i)) (sem := csem (rsT i)) (c' := (peer c : Thread nD τ))
    (r₁ := 0) (r₂ := 0) (d₁ := ()) (d₂ := ()) (fd := f) (fs := TL m c)
    (mem_duties m c (osT i)) (mem_duties m (peer c) (rsT i))
    () () NT rfl (amount_cell m c (osT i)) (amount_cell m (peer c) (rsT i)) O rfl (W := W)
    (by rw [payload_cell]; exact BI.Entails.refl _)
    (by rw [payload_cell]; exact t_pay m c i f)) $$ [Hs Hd HO Ht1 Ht2]
  · isplitr; · iapply (inv_at m K c (osT i)); iexact Hr
    isplitr; · iapply (inv_at m K (peer c) (rsT i)); iexact Hr
    isplitl [Hs]; · iexact Hs
    isplitl [Hd]; · iexact Hd
    isplitl [HO]; · iexact HO
    isplitl [Ht1]; · iexact Ht1
    isplitr; · iapply (reached_at m K c (osT i)); iexact Hr
    isplitl [Ht2]; · iexact Ht2
    iapply (reached_at m K (peer c) (rsT i)); iexact Hr
  iintro ⟨Hc, HO⟩
  rw [wp_ret]; imodintro
  iapply Hk
  isplitl [Hc]; · iexact Hc
  iexists W; iexact HO

end Send

/-! ## One batch's exchange -/

/-- A batch's positions in its four cells, and the credit for the two copies to come. -/
def base (c : Dev nD) (i : Fin 8) : sProp 𝕄 :=
  iprop(atPos ER (kcell c (osO i)) 0 ∅ 0 ∗ atPos ER (kcell c (rsO i)) 0 ∅ 0 ∗ atPos ER (kcell c (osT i)) 0 ∅ 0 ∗ atPos ER (kcell c (rsT i)) 0 ∅ 0
    ∗ cred (tallyAt (kcell c (rsO i)) () NO) ∗ cred (tallyAt (kcell c (rsT i)) () NT))
/-- The duties a batch's two copies pay. -/
def toks (c : Dev nD) (i : Fin 8) : sProp 𝕄 :=
  iprop(dutyTok ER (kcell c (osO i)) 0 () ∗ dutyTok ER (kcell (peer c) (rsO i)) 0 () ∗ dutyTok ER (kcell c (osT i)) 0 () ∗ dutyTok ER (kcell (peer c) (rsT i)) 0 ())
/-- The device's own buffers for a batch. -/
def ownB (c : Dev nD) (i : Fin 8) : sProp 𝕄 := iprop((∃ f, oPts oL c i f) ∗ (∃ f, tPts tL c i f))
/-- The partner's receive buffers for a batch. -/
def rxB (c : Dev nD) (i : Fin 8) : sProp 𝕄 := iprop((∃ f, oPts oR c i f) ∗ (∃ f, tPts tR c i f))
/-- A batch before its copies. -/
def pend (c : Dev nD) (i : Fin 8) : sProp 𝕄 := iprop(base c i ∗ toks c i ∗ ownB c i ∗ rxB (peer c) i)
/-- A batch whose copies are issued. -/
def sent (c : Dev nD) (i : Fin 8) : sProp 𝕄 :=
  iprop(base c i ∗ cred (tallyAt (kcell c (osO i)) () NO) ∗ cred (tallyAt (kcell c (osT i)) () NT))
/-- A batch whose copies are waited for. -/
def done (c : Dev nD) (i : Fin 8) : sProp 𝕄 :=
  iprop((oPts oL c i (OL m c) ∗ oPts oR c i (OL m (peer c)) ∗ tPts tL c i (TL m c) ∗ tPts tR c i (TL m (peer c)))
    ∗ semVal (kcell c (osO i)) 0 ∗ semVal (kcell c (rsO i)) 0 ∗ semVal (kcell c (osT i)) 0 ∗ semVal (kcell c (rsT i)) 0)

theorem wp_drain (c : Dev nD) (i : Fin 8) {os : Fin 1 → ℕ} {hos : ∀ a, os a + S1.size a ≤ S8.size a}
    {o : Fin 4 → ℕ} {h : ∀ a, o a + S1x16x8x128.size a ≤ S8x16x8x128.size a}
    {hw : (Rect.unit (s := S8x16x8x128) o S1x16x8x128.size h).WholeWords (EltTy.packing .bf16)} {hob : oL.IsWhole} {hrb : oR.IsWhole}
    {p : Fin 3 → ℕ} {hp : ∀ a, p a + S1x8x32.size a ≤ S8x8x32.size a}
    (h1 : os = ![i.val]) (h2 : o = ![i.val, 0, 0, 0]) (h3 : p = ![i.val, 0, 0]) (Q : PUnit → sProp 𝕄) :
    iprop(records m K ∗ sent c i ∗ ow c 0 ∗ ((done m c i ∗ ow c 0) -∗ Q ⟨⟩))
      ⊢ WP c (drainP oL oR hob hrb tL tR cc0_scratch8 cc0_scratch9 cc0_scratch10 cc0_scratch11 os hos o h hw p hp) Q := by
  subst h1 h2 h3
  unfold drainP WP sent base
  simp only [Prog.lift, Prog.bind_op, Prog.bind_ret, Prog.pure_eq_ret]
  iintro ⟨#Hr, ⟨⟨A0, A1, A2, A3, C1, C3⟩, C0, C2⟩, HO, Hk⟩
  iapply (wp_wait_cell m K c (osO i) (wpE_waitDma2_eq 𝒱₀ (c : Thread nD τ) none Set.univ) 0)
  isplitr; · ipureintro; exact ⟨rfl, rfl⟩
  isplitr; · iexact Hr
  isplitl [C0]; · iexact C0
  isplitl [HO]; · iexact HO
  isplitr; · rw [MayWait_zero]; iempintro
  isplitl [A0]; · iexact A0
  iintro ⟨HO, P0, Z0⟩
  iapply (wp_wait_cell m K c (rsO i) (wpE_waitDma2_eq 𝒱₀ (c : Thread nD τ) none Set.univ) 0)
  isplitr; · ipureintro; exact ⟨rfl, rfl⟩
  isplitr; · iexact Hr
  isplitl [C1]; · iexact C1
  isplitl [HO]; · iexact HO
  isplitr; · rw [MayWait_zero]; iempintro
  isplitl [A1]; · iexact A1
  iintro ⟨HO, P1, Z1⟩
  iapply (wp_wait_cell m K c (osT i) (wpE_waitDma2_eq 𝒱₀ (c : Thread nD τ) none Set.univ) 0)
  isplitr; · ipureintro; exact ⟨rfl, rfl⟩
  isplitr; · iexact Hr
  isplitl [C2]; · iexact C2
  isplitl [HO]; · iexact HO
  isplitr; · rw [MayWait_zero]; iempintro
  isplitl [A2]; · iexact A2
  iintro ⟨HO, P2, Z2⟩
  iapply (wp_wait_cell m K c (rsT i) (wpE_waitDma2_eq 𝒱₀ (c : Thread nD τ) none Set.univ) 0)
  isplitr; · ipureintro; exact ⟨rfl, rfl⟩
  isplitr; · iexact Hr
  isplitl [C3]; · iexact C3
  isplitl [HO]; · iexact HO
  isplitr; · rw [MayWait_zero]; iempintro
  isplitl [A3]; · iexact A3
  iintro ⟨HO, P3, Z3⟩
  rw [wp_ret]; imodintro
  iapply Hk
  unfold done
  isplitr [HO]
  · isplitl [P0 P1 P2 P3]
    · isplitl [P0]; · iapply (Entails.of_eq (show pay m c (osO i) = oPts oL c i (OL m c) from rfl)) $$ P0
      isplitl [P1]; · iapply (Entails.of_eq (show pay m c (rsO i) = oPts oR c i (OL m (peer c)) from rfl)) $$ P1
      isplitl [P2]; · iapply (Entails.of_eq (show pay m c (osT i) = tPts tL c i (TL m c) from rfl)) $$ P2
      iapply (Entails.of_eq (show pay m c (rsT i) = tPts tR c i (TL m (peer c)) from rfl)) $$ P3
    isplitl [Z0]; · iexact Z0
    isplitl [Z1]; · iexact Z1
    isplitl [Z2] <;> iassumption
  iexact HO

/-! ## The combination -/

theorem slicesH : ∀ h : Fin 16, S8x8x16.Slices ![0, 0, h.val] S8x8x1 := by decide
/-- Head `h` of all batches' outputs. -/
def oRd (X : Vec F S8x16x8x128 .bf16) (h : Fin 16) : Vec F S8x1x8x128 .bf16 := fun x => X (ix4 (x 0) h (x 2) (x 3))
/-- The maxima and the sums, of all batches and heads. -/
def tM (T : Vec F S8x8x32 .f32) : Vec F S8x8x16 .f32 := fun x => T (ix3 (x 0) (x 1) (Fin.castLE (by decide) (x 2)))
def tS (T : Vec F S8x8x32 .f32) : Vec F S8x8x16 .f32 := fun x => T (ix3 (x 0) (x 1) (Fin.natAdd 16 (x 2)))
/-- The result from two devices' partial outputs and statistics. -/
def outH (h : Fin 16) (w0 w1 : FVec F S8x8x16 .f32) (a b : Vec F S8x16x8x128 .bf16) : FVec F S8x8x1x128 .f32 :=
  combO ![0, 0, h.val] (slicesH h) w0 w1 (oRd a h) (oRd b h)
def outW (w0 w1 : FVec F S8x8x16 .f32) (a b : Vec F S8x16x8x128 .bf16) : Vec F S8x8x16x128 .f32 :=
  fun x => outH (x 2) w0 w1 a b (ix4 (x 0) (x 1) 0 (x 3))
/-- The weights of the two halves. -/
abbrev W0 (c : Dev nD) : FVec F S8x8x16 .f32 := k0_pay7 (tM (TL m c)) (tS (TL m c)) (tM (TL m (peer c))) (tS (TL m (peer c)))
abbrev W1 (c : Dev nD) : FVec F S8x8x16 .f32 := k0_pay8 (tM (TL m c)) (tS (TL m c)) (tM (TL m (peer c))) (tS (TL m (peer c)))
/-- The result on device `c`. -/
def OUT (c : Dev nD) : Vec F S8x8x16x128 .f32 := outW (W0 m c) (W1 m c) (OL m c) (OL m (peer c))

section Comb

variable (arg4 : Memref sig .tc .vmem S8x8x16x128 .f32)

/-- The staged result, heads below `n` stored. -/
def outHeads (c : Dev nD) (R : Vec F S8x8x16x128 .f32) (n : ℕ) : sProp 𝕄 :=
  iprop(∃ f, ⌜∀ x : S8x8x16x128.Idx, (x 2).val < n → arg4.view.read (Elt F) f x = R x⌝ ∗ arg4.view.loc (c : Thread nD τ) ↦[arg4.view.set]{fullShare} f)

theorem out_emb (h : Fin 16) {p : Fin 4 → ℕ} (hp : ∀ a, p a + S8x8x1x128.size a ≤ S8x8x16x128.size a) (e : p = ![0, 0, h.val, 0]) (y : S8x8x1x128.Idx) :
    (Rect.unit (s := S8x8x16x128) p S8x8x1x128.size hp).emb y = ix4 (y 0) (y 1) h (y 3) := by
  subst e
  refine funext ?_
  refine Fin.forall_fin_succ.mpr ⟨Fin.ext ?_, Fin.forall_fin_succ.mpr ⟨Fin.ext ?_, Fin.forall_fin_succ.mpr ⟨Fin.ext ?_, Fin.forall_fin_succ.mpr ⟨Fin.ext ?_, fun a => a.elim0⟩⟩⟩⟩
  · show 0 + 1 * (y 0).val = (y 0).val
    omega
  · show 0 + 1 * (y 1).val = (y 1).val
    omega
  · show h.val + 1 * (y 2).val = h.val
    have h1 : (y 2).val < 1 := (y 2).isLt
    omega
  · show 0 + 1 * (y 3).val = (y 3).val
    omega

theorem out_step (h : Fin 16) {p : Fin 4 → ℕ} (hp : ∀ a, p a + S8x8x1x128.size a ≤ S8x8x16x128.size a) (e : p = ![0, 0, h.val, 0])
    (f : arg4.view.ty.Contents (Elt F)) (R : Vec F S8x8x16x128 .f32) (w : Vec F S8x8x1x128 .f32)
    (hw : ∀ x : S8x8x16x128.Idx, x 2 = h → R x = w (ix4 (x 0) (x 1) 0 (x 3)))
    (hf : ∀ x : S8x8x16x128.Idx, (x 2).val < h.val → arg4.view.read (Elt F) f x = R x) (x : S8x8x16x128.Idx) (hx : (x 2).val < h.val + 1) :
    arg4.view.read (Elt F) ((arg4.access (Rect.unit (s := S8x8x16x128) p S8x8x1x128.size hp)).write (Elt F) f w Finset.univ) x = R x := by
  rw [View.read_apply]
  by_cases h2 : x 2 = h
  · have hx' : (arg4.access (Rect.unit (s := S8x8x16x128) p S8x8x1x128.size hp)).emb (ix4 (x 0) (x 1) 0 (x 3)) = arg4.view.emb x := by
      refine congrArg arg4.view.emb ((out_emb h hp e _).trans ?_)
      rw [← h2]
      exact (ValueIdx.eq_ix4 x).symm
    refine (congrArg _ (write_at (arg4.access (Rect.unit (s := S8x8x16x128) p S8x8x1x128.size hp)) f w (ix4 (x 0) (x 1) 0 (x 3)) (arg4.view.emb x) hx')).trans ?_
    rw [hw x h2]
    exact cast_cast _ _ _
  · have hne : arg4.view.emb x ∉ (arg4.access (Rect.unit (s := S8x8x16x128) p S8x8x1x128.size hp)).setOn Finset.univ := by
      intro hz
      obtain ⟨y, -, hy⟩ := Finset.mem_map.mp hz
      have hy' := arg4.view.emb.injective hy
      exact h2 (by rw [← hy']; exact congrFun (out_emb h hp e y) 2)
    rw [View.write_of_not_mem _ _ _ hne]
    refine hf x ?_
    have : (x 2).val ≠ h.val := fun e' => h2 (Fin.ext e')
    omega

theorem oRd_read (b : Memref sig .tc .vmem S8x16x8x128 .bf16) (h : Fin 16) {o : Fin 4 → ℕ} (ho : ∀ a, o a + S8x1x8x128.size a ≤ S8x16x8x128.size a)
    (e : o = ![0, h.val, 0, 0]) (f : b.view.ty.Contents (Elt F)) (X : Vec F S8x16x8x128 .bf16) (hX : b.view.read (Elt F) f = X) :
    b.view.readAt (Elt F) (Rect.unit (s := S8x16x8x128) o S8x1x8x128.size ho).toLoadRect f = oRd X h := by
  subst e hX
  funext x
  rw [View.readAt_apply]
  refine congrArg (b.view.read (Elt F) f) (funext ?_)
  refine Fin.forall_fin_succ.mpr ⟨Fin.ext ?_, Fin.forall_fin_succ.mpr ⟨Fin.ext ?_, Fin.forall_fin_succ.mpr ⟨Fin.ext ?_, Fin.forall_fin_succ.mpr ⟨Fin.ext ?_, fun a => a.elim0⟩⟩⟩⟩
  · show 0 + 1 * (x 0).val = (x 0).val
    omega
  · show h.val + 1 * (x 1).val = h.val
    have h1 : (x 1).val < 1 := (x 1).isLt
    omega
  · show 0 + 1 * (x 2).val = (x 2).val
    omega
  · show 0 + 1 * (x 3).val = (x 3).val
    omega

theorem tM_read (b : Memref sig .tc .vmem S8x8x32 .f32) {ho : ∀ a, (![0, 0, 0] : Fin 3 → ℕ) a + S8x8x16.size a ≤ S8x8x32.size a}
    (f : b.view.ty.Contents (Elt F)) (X : Vec F S8x8x32 .f32) (hX : b.view.read (Elt F) f = X) :
    b.view.readAt (Elt F) (Rect.unit (s := S8x8x32) ![0, 0, 0] S8x8x16.size ho).toLoadRect f = tM X := by
  subst hX
  funext x
  rw [View.readAt_apply]
  refine congrArg (b.view.read (Elt F) f) (funext ?_)
  refine Fin.forall_fin_succ.mpr ⟨Fin.ext ?_, Fin.forall_fin_succ.mpr ⟨Fin.ext ?_, Fin.forall_fin_succ.mpr ⟨Fin.ext ?_, fun a => a.elim0⟩⟩⟩
  · show 0 + 1 * (x 0).val = (x 0).val
    omega
  · show 0 + 1 * (x 1).val = (x 1).val
    omega
  · show 0 + 1 * (x 2).val = (x 2).val
    omega

theorem tS_read (b : Memref sig .tc .vmem S8x8x32 .f32) {ho : ∀ a, (![0, 0, 16] : Fin 3 → ℕ) a + S8x8x16.size a ≤ S8x8x32.size a}
    (f : b.view.ty.Contents (Elt F)) (X : Vec F S8x8x32 .f32) (hX : b.view.read (Elt F) f = X) :
    b.view.readAt (Elt F) (Rect.unit (s := S8x8x32) ![0, 0, 16] S8x8x16.size ho).toLoadRect f = tS X := by
  subst hX
  funext x
  rw [View.readAt_apply]
  refine congrArg (b.view.read (Elt F) f) (funext ?_)
  refine Fin.forall_fin_succ.mpr ⟨Fin.ext ?_, Fin.forall_fin_succ.mpr ⟨Fin.ext ?_, Fin.forall_fin_succ.mpr ⟨Fin.ext ?_, fun a => a.elim0⟩⟩⟩
  · show 0 + 1 * (x 0).val = (x 0).val
    omega
  · show 0 + 1 * (x 1).val = (x 1).val
    omega
  · show 16 + 1 * (x 2).val = 16 + (x 2).val
    omega

/-- A whole buffer at known contents. -/
def wPts {s : Shape} {e : EltTy} (b : Memref sig .tc .vmem s e) (c : Dev nD) (X : Vec F s e) : sProp 𝕄 := owns (c : Thread nD τ) b fullShare X

theorem wp_comb (c : Dev nD) (h : Fin 16) (w0 w1 : FVec F S8x8x16 .f32) (A B : Vec F S8x16x8x128 .bf16)
    {o : Fin 4 → ℕ} {ho : ∀ a, o a + S8x1x8x128.size a ≤ S8x16x8x128.size a}
    {p : Fin 4 → ℕ} {hp : ∀ a, p a + S8x8x1x128.size a ≤ S8x8x16x128.size a}
    {x : Fin 3 → ℕ} {hx : S8x8x16.Slices x S8x8x1}
    (h1 : o = ![0, h.val, 0, 0]) (h2 : p = ![0, 0, h.val, 0]) (h3 : x = ![0, 0, h.val]) (Q : PUnit → sProp 𝕄) :
    iprop(wPts oL c A ∗ wPts oR c B ∗ outHeads arg4 c (outW w0 w1 A B) h.val
        ∗ ((wPts oL c A ∗ wPts oR c B ∗ outHeads arg4 c (outW w0 w1 A B) (h.val + 1)) -∗ Q ⟨⟩))
      ⊢ WP c (combP oL oR arg4 w0 w1 o ho p hp x hx) Q := by
  subst h3
  unfold wPts owns outHeads combP WP
  simp only [Prog.lift, Prog.bind_op, Prog.bind_ret, Prog.pure_eq_ret]
  iintro ⟨⟨%fa, %hfa, Ha⟩, ⟨%fb, %hfb, Hb⟩, ⟨%fo, %hfo, Ho⟩, Hc⟩
  iapply (wp_load 𝒱₀ (c : Thread nD τ) none Set.univ (m := oL) (View.setOn_subset_set _ _)) $$ Ha; iintro Ha
  rw [oRd_read oL h ho h1 fa A hfa]
  iapply (wp_load 𝒱₀ (c : Thread nD τ) none Set.univ (m := oR) (View.setOn_subset_set _ _)) $$ Hb; iintro Hb
  rw [oRd_read oR h ho h1 fb B hfb]
  iapply (wp_load 𝒱₀ (c : Thread nD τ) none Set.univ (m := arg4) (View.setOn_subset_set _ _)) $$ Ho; iintro Ho
  iapply (wp_store 𝒱₀ (c : Thread nD τ) none Set.univ (m := arg4) (r := Rect.unit (s := S8x8x16x128) p S8x8x1x128.size hp) (S := arg4.view.set) (Mk := Finset.univ) (View.set_slice_subset _ _)) $$ Ho; iintro Ho
  rw [wp_ret]; imodintro
  iapply Hc
  isplitl [Ha]
  · iexists fa
    isplitr; · ipureintro; exact hfa
    iexact Ha
  isplitl [Hb]
  · iexists fb
    isplitr; · ipureintro; exact hfb
    iexact Hb
  iexists _
  isplitr
  · ipureintro
    exact out_step arg4 h hp h2 fo (outW w0 w1 A B) (outH h w0 w1 A B) (fun x hx => by
      show outH (x 2) w0 w1 A B (ix4 (x 0) (x 1) 0 (x 3)) = _
      rw [hx]) hfo
  iexact Ho

end Comb

end Cert.KernelIdeal.Run

end
-- ==== Proof.Step.lean ====
/- One grid point of the body, piece by piece. -/
module

public import proofs.«01_k».proof.Proof.Sends

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## Key and value slots together -/

/-- Key and value slot `g` idle. -/
def free2 (c : Dev nD) (g : Fin 4) : sProp 𝕄 :=
  iprop(slotFree argK bufK cc0_scratch2 c (Kc m c) g ∗ slotFree argV bufV cc0_scratch3 c (Vc m c) g)
/-- Key and value slot `g` being filled with batch `b`'s chunk `g`. -/
def fly2 (c : Dev nD) (b : Fin 8) (g : Fin 4) : sProp 𝕄 :=
  iprop(slotFly argK (Memref.isWhole_whole _) bufK cc0_scratch2 c (Kc m c) b g ∗ slotFly argV (Memref.isWhole_whole _) bufV cc0_scratch3 c (Vc m c) b g)

theorem creditK (g : Fin 4) : (slotAt bufK g).view.dmaCredit = NK := rfl
theorem creditV (g : Fin 4) : (slotAt bufV g).view.dmaCredit = NK := rfl

theorem lv_slotK (c : Dev nD) (g : Fin 4) : lv ((c : Thread nD τ), slotSem cc0_scratch2 g) () ≤ 1 := by
  rw [lv_other c _ (by revert g; decide) (by revert g; decide) (by revert g; decide)]; decide
theorem lv_slotV (c : Dev nD) (g : Fin 4) : lv ((c : Thread nD τ), slotSem cc0_scratch3 g) () ≤ 1 := by
  rw [lv_other c _ (by revert g; decide) (by revert g; decide) (by revert g; decide)]; decide

section Group

variable {og : Fin 1 → ℕ} {hg : ∀ a, og a + S1.size a ≤ S4.size a}
    {od : Fin 3 → ℕ} {hd : ∀ a, od a + S1x1024x512.size a ≤ S4x1024x512.size a}
    {os : Fin 4 → ℕ} {hos : ∀ a, os a + S1x1024x1x512.size a ≤ S8x1024x4x512.size a}

theorem wp_issue2 (c : Dev nD) (b : Fin 8) (g : Fin 4) {hK : argK.IsWhole} {hV : argV.IsWhole}
    (h1 : og = ![g.val]) (h2 : od = ![g.val, 0, 0]) (h3 : os = ![b.val, 0, g.val, 0]) (Q : PUnit → sProp 𝕄) :
    iprop(free2 m c g ∗ (fly2 m c b g -∗ Q ⟨⟩)) ⊢ WP c (issue2P argK hK argV hV bufK bufV cc0_scratch2 cc0_scratch3 og hg od hd os hos) Q := by
  unfold issue2P free2
  simp only [WP, wp_bind]
  iintro ⟨⟨H1, H2⟩, Hk⟩
  iapply (wp_issue argK hK bufK cc0_scratch2 c (Kc m c) b g (creditK g) h1 h2 h3)
  isplitl [H1]; · iexact H1
  iintro F1
  iapply (wp_issue argV hV bufV cc0_scratch3 c (Vc m c) b g (creditV g) h1 h2 h3)
  isplitl [H2]; · iexact H2
  iintro F2
  iapply Hk
  unfold fly2
  isplitl [F1] <;> iassumption

theorem wp_wait2 (c : Dev nD) (b : Fin 8) (g : Fin 4) {hK : argK.IsWhole} {hV : argV.IsWhole}
    (h1 : og = ![g.val]) (h2 : od = ![g.val, 0, 0]) (h3 : os = ![b.val, 0, g.val, 0]) (n : ℕ) (Q : PUnit → sProp 𝕄) :
    iprop(fly2 m c b g ∗ ow c (owedR c n) ∗ levAts L lv
        ∗ (((slotHas bufK c g (chunkR argK (Memref.isWhole_whole _) (Kc m c) b g) ∗ slotHas bufV c g (chunkR argV (Memref.isWhole_whole _) (Vc m c) b g))
          ∗ (slotRest argK cc0_scratch2 c (Kc m c) g ∗ slotRest argV cc0_scratch3 c (Vc m c) g) ∗ ow c (owedR c n)) -∗ Q ⟨⟩))
      ⊢ WP c (wait2P argK hK argV hV bufK bufV cc0_scratch2 cc0_scratch3 og hg od hd os hos) Q := by
  unfold wait2P fly2
  simp only [WP, wp_bind]
  iintro ⟨⟨F1, F2⟩, HO, #Hlev, Hk⟩
  iapply (wp_wait argK hK bufK cc0_scratch2 c (Kc m c) b g (creditK g) h1 h2 h3 (owedR c n))
  isplitl [F1]; · iexact F1
  isplitl [HO]; · iexact HO
  isplitr; · iapply (mayWait_owedR c (slotSem cc0_scratch2 g) n (lv_slotK c g)); iexact Hlev
  iintro ⟨H1, R1, HO⟩
  iapply (wp_wait argV hV bufV cc0_scratch3 c (Vc m c) b g (creditV g) h1 h2 h3 (owedR c n))
  isplitl [F2]; · iexact F2
  isplitl [HO]; · iexact HO
  isplitr; · iapply (mayWait_owedR c (slotSem cc0_scratch3 g) n (lv_slotV c g)); iexact Hlev
  iintro ⟨H2, R2, HO⟩
  iapply Hk
  isplitl [H1 H2]; · isplitl [H1] <;> iassumption
  isplitl [R1 R2]; · isplitl [R1] <;> iassumption
  iexact HO

end Group

set_option backward.proofsInPublic true in
/-- Head `j` of chunk `g`. -/
def hAt (g j : Fin 4) : Fin 16 := ⟨4 * g.val + j.val, by omega⟩
theorem hG_at (g j : Fin 4) : hG (hAt g j) = g := by revert g j; decide
theorem hJ_at (g j : Fin 4) : hJ (hAt g j) = j := by revert g j; decide

/-- A head, by its chunk and its place there. -/
theorem wp_head' (arg1 : Memref sig .tc .vmem S1x8x16x128 .f32) (c : Dev nD) (b : Fin 8) (g j : Fin 4) (h : Fin 16) (n : ℕ) (hh : h = hAt g j) (hn : h.val + 1 = n)
    {oq : Fin 4 → ℕ} {hq : ∀ a, oq a + S1x8x1x128.size a ≤ S1x8x16x128.size a}
    {ok : Fin 3 → ℕ} {hk : ∀ a, ok a + S1x1024x128.size a ≤ S4x1024x512.size a}
    {oo : Fin 4 → ℕ} {ho : ∀ a, oo a + S1x1x8x128.size a ≤ S8x16x8x128.size a}
    {hp : (Rect.unit (s := S8x16x8x128) oo S1x1x8x128.size ho).PackedRows (EltTy.packing .bf16)}
    {harg9 : oL.IsWhole}
    (h1 : oq = ![0, 0, h.val, 0]) (h2 : ok = ![g.val, 0, 128 * j.val]) (h3 : oo = ![b.val, h.val, 0, 0])
    (Q : FVec F S8x1 .f32 × FVec F S8x1 .f32 → sProp 𝕄) :
    iprop(qPts m arg1 c b ∗ (slotHas bufK c g (chunkR argK (Memref.isWhole_whole _) (Kc m c) b g)
        ∗ slotHas bufV c g (chunkR argV (Memref.isWhole_whole _) (Vc m c) b g)) ∗ oHeads m c b h.val
        ∗ ((qPts m arg1 c b ∗ (slotHas bufK c g (chunkR argK (Memref.isWhole_whole _) (Kc m c) b g)
          ∗ slotHas bufV c g (chunkR argV (Memref.isWhole_whole _) (Vc m c) b g)) ∗ oHeads m c b n)
            -∗ Q (hM m c b h, hL m c b h)))
      ⊢ WP c (headP arg1 bufK bufV oL harg9 oq hq ok hk oo ho hp) Q := by
  subst hh hn
  have H := wp_head m arg1 c b (hAt g j) (hq := hq) (hk := hk) (ho := ho) (hp := hp) (harg9 := harg9) h1 (by rw [hG_at, hJ_at]; exact h2) h3 Q
  rw [hG_at] at H
  iintro ⟨Hq, ⟨HK, HV⟩, Ho, Hk⟩
  iapply H
  isplitl [Hq]; · iexact Hq
  isplitl [HK]; · iexact HK
  isplitl [HV]; · iexact HV
  isplitl [Ho]; · iexact Ho
  iintro ⟨Hq, HK, HV, Ho⟩
  iapply Hk
  isplitl [Hq]; · iexact Hq
  isplitl [HK HV]; · isplitl [HK] <;> iassumption
  iexact Ho

theorem free2_of (c : Dev nD) (g : Fin 4) (C D : Vec F S1024x512 .f32) :
    iprop((slotHas bufK c g C ∗ slotHas bufV c g D) ∗ slotRest argK cc0_scratch2 c (Kc m c) g ∗ slotRest argV cc0_scratch3 c (Vc m c) g) ⊢ free2 m c g := by
  unfold free2
  iintro ⟨⟨H1, H2⟩, R1, R2⟩
  isplitl [H1 R1]
  · iapply (slotFree_of argK bufK cc0_scratch2 c (Kc m c) g C)
    isplitl [H1] <;> iassumption
  · iapply (slotFree_of argV bufV cc0_scratch3 c (Vc m c) g D)
    isplitl [H2] <;> iassumption

/-- The wait for one chunk and its four heads. -/
theorem wp_group (arg1 : Memref sig .tc .vmem S1x8x16x128 .f32) (c : Dev nD) (b : Fin 8) (g : Fin 4) (s : ℕ)
    {og : Fin 1 → ℕ} {hg : ∀ a, og a + S1.size a ≤ S4.size a}
    {od : Fin 3 → ℕ} {hd : ∀ a, od a + S1x1024x512.size a ≤ S4x1024x512.size a}
    {os : Fin 4 → ℕ} {hos : ∀ a, os a + S1x1024x1x512.size a ≤ S8x1024x4x512.size a} {hK : argK.IsWhole} {hV : argV.IsWhole}
    {oq0 : Fin 4 → ℕ} {hq0 : ∀ a, oq0 a + S1x8x1x128.size a ≤ S1x8x16x128.size a}
    {ok0 : Fin 3 → ℕ} {hk0 : ∀ a, ok0 a + S1x1024x128.size a ≤ S4x1024x512.size a}
    {oo0 : Fin 4 → ℕ} {ho0 : ∀ a, oo0 a + S1x1x8x128.size a ≤ S8x16x8x128.size a}
    {hp0 : (Rect.unit (s := S8x16x8x128) oo0 S1x1x8x128.size ho0).PackedRows (EltTy.packing .bf16)}
    {oq1 : Fin 4 → ℕ} {hq1 : ∀ a, oq1 a + S1x8x1x128.size a ≤ S1x8x16x128.size a}
    {ok1 : Fin 3 → ℕ} {hk1 : ∀ a, ok1 a + S1x1024x128.size a ≤ S4x1024x512.size a}
    {oo1 : Fin 4 → ℕ} {ho1 : ∀ a, oo1 a + S1x1x8x128.size a ≤ S8x16x8x128.size a}
    {hp1 : (Rect.unit (s := S8x16x8x128) oo1 S1x1x8x128.size ho1).PackedRows (EltTy.packing .bf16)}
    {oq2 : Fin 4 → ℕ} {hq2 : ∀ a, oq2 a + S1x8x1x128.size a ≤ S1x8x16x128.size a}
    {ok2 : Fin 3 → ℕ} {hk2 : ∀ a, ok2 a + S1x1024x128.size a ≤ S4x1024x512.size a}
    {oo2 : Fin 4 → ℕ} {ho2 : ∀ a, oo2 a + S1x1x8x128.size a ≤ S8x16x8x128.size a}
    {hp2 : (Rect.unit (s := S8x16x8x128) oo2 S1x1x8x128.size ho2).PackedRows (EltTy.packing .bf16)}
    {oq3 : Fin 4 → ℕ} {hq3 : ∀ a, oq3 a + S1x8x1x128.size a ≤ S1x8x16x128.size a}
    {ok3 : Fin 3 → ℕ} {hk3 : ∀ a, ok3 a + S1x1024x128.size a ≤ S4x1024x512.size a}
    {oo3 : Fin 4 → ℕ} {ho3 : ∀ a, oo3 a + S1x1x8x128.size a ≤ S8x16x8x128.size a}
    {hp3 : (Rect.unit (s := S8x16x8x128) oo3 S1x1x8x128.size ho3).PackedRows (EltTy.packing .bf16)}
    {harg9 : oL.IsWhole} (h0 h1 h2 h3 : Fin 16) (hs : h0.val = s ∧ h1.val = s + 1 ∧ h2.val = s + 2 ∧ h3.val = s + 3 ∧ s = 4 * g.val)
    (e1 : og = ![g.val]) (e2 : od = ![g.val, 0, 0]) (e3 : os = ![b.val, 0, g.val, 0])
    (eq0 : oq0 = ![0, 0, h0.val, 0]) (eq1 : oq1 = ![0, 0, h1.val, 0]) (eq2 : oq2 = ![0, 0, h2.val, 0]) (eq3 : oq3 = ![0, 0, h3.val, 0])
    (ek0 : ok0 = ![g.val, 0, 0]) (ek1 : ok1 = ![g.val, 0, 128]) (ek2 : ok2 = ![g.val, 0, 256]) (ek3 : ok3 = ![g.val, 0, 384])
    (eo0 : oo0 = ![b.val, h0.val, 0, 0]) (eo1 : oo1 = ![b.val, h1.val, 0, 0]) (eo2 : oo2 = ![b.val, h2.val, 0, 0]) (eo3 : oo3 = ![b.val, h3.val, 0, 0])
    (n : ℕ) (k : (r0 r1 r2 r3 : FVec F S8x1 .f32 × FVec F S8x1 .f32) → Prog (TpuEff nD τ sig (Elt F) Λ₀ .tc) PUnit) (Q : PUnit → sProp 𝕄) :
    iprop(fly2 m c b g ∗ qPts m arg1 c b ∗ oHeads m c b s ∗ ow c (owedR c n) ∗ levAts L lv
        ∗ ((free2 m c g ∗ qPts m arg1 c b ∗ oHeads m c b (s + 4) ∗ ow c (owedR c n))
          -∗ WP c (k (hM m c b h0, hL m c b h0) (hM m c b h1, hL m c b h1) (hM m c b h2, hL m c b h2) (hM m c b h3, hL m c b h3)) Q))
      ⊢ WP c (do
          wait2P argK hK argV hV bufK bufV cc0_scratch2 cc0_scratch3 og hg od hd os hos
          let r0 ← headP arg1 bufK bufV oL harg9 oq0 hq0 ok0 hk0 oo0 ho0 hp0
          let r1 ← headP arg1 bufK bufV oL harg9 oq1 hq1 ok1 hk1 oo1 ho1 hp1
          let r2 ← headP arg1 bufK bufV oL harg9 oq2 hq2 ok2 hk2 oo2 ho2 hp2
          let r3 ← headP arg1 bufK bufV oL harg9 oq3 hq3 ok3 hk3 oo3 ho3 hp3
          k r0 r1 r2 r3) Q := by
  obtain ⟨a0, a1, a2, a3, a4⟩ := hs
  simp only [WP, wp_bind]
  iintro ⟨F, Hq, Ho, HO, #Hlev, Hk⟩
  iapply (wp_wait2 m c b g e1 e2 e3 n)
  isplitl [F]; · iexact F
  isplitl [HO]; · iexact HO
  isplitr; · iexact Hlev
  iintro ⟨Hkv, Hrest, HO⟩
  iapply (wp_head' m arg1 c b g 0 h0 (s + 1) (Fin.ext (by rw [a0, a4]; rfl)) (by rw [a0]) eq0 ek0 eo0)
  isplitl [Hq]; · iexact Hq
  isplitl [Hkv]; · iexact Hkv
  isplitl [Ho]; · rw [a0]; iexact Ho
  iintro ⟨Hq, Hkv, Ho⟩
  iapply (wp_head' m arg1 c b g 1 h1 (s + 2) (Fin.ext (by rw [a1, a4]; rfl)) (by rw [a1]) eq1 ek1 eo1)
  isplitl [Hq]; · iexact Hq
  isplitl [Hkv]; · iexact Hkv
  isplitl [Ho]; · rw [a1]; iexact Ho
  iintro ⟨Hq, Hkv, Ho⟩
  iapply (wp_head' m arg1 c b g 2 h2 (s + 3) (Fin.ext (by rw [a2, a4]; rfl)) (by rw [a2]) eq2 ek2 eo2)
  isplitl [Hq]; · iexact Hq
  isplitl [Hkv]; · iexact Hkv
  isplitl [Ho]; · rw [a2]; iexact Ho
  iintro ⟨Hq, Hkv, Ho⟩
  iapply (wp_head' m arg1 c b g 3 h3 (s + 4) (Fin.ext (by rw [a3, a4]; rfl)) (by rw [a3]) eq3 ek3 eo3)
  isplitl [Hq]; · iexact Hq
  isplitl [Hkv]; · iexact Hkv
  isplitl [Ho]; · rw [a3]; iexact Ho
  iintro ⟨Hq, Hkv, Ho⟩
  iapply Hk
  isplitl [Hkv Hrest]
  · iapply (free2_of m c g _ _)
    isplitl [Hkv] <;> iassumption
  isplitl [Hq]; · iexact Hq
  isplitl [Ho]; · iexact Ho
  iexact HO

/-! ## The part every grid point runs -/

theorem list16 {α : Type} (f : Fin 16 → α) : ![f 0, f 1, f 2, f 3, f 4, f 5, f 6, f 7, f 8, f 9, f 10, f 11, f 12, f 13, f 14, f 15] = f := by
  funext x
  fin_cases x <;> rfl

/-- From the first three chunks in flight to the two remote copies issued. -/
theorem wp_core (arg1 : Memref sig .tc .vmem S1x8x16x128 .f32) (c : Dev nD) (b : Fin 8) (i : grid0.Coords) (hi : (i 0).val = b.val)
    {hK : argK.IsWhole} {hV : argV.IsWhole} {hoL : oL.IsWhole} {hoR : oR.IsWhole}
    (n0 n1 n2 : Prog (TpuEff nD τ sig (Elt F) Λ₀ .tc) PUnit) (N0 N1 N2 : sProp 𝕄)
    (hn0 : ∀ Q : PUnit → sProp 𝕄, iprop(free2 m c 0 ∗ (N0 -∗ Q ⟨⟩)) ⊢ WP c n0 Q)
    (hn1 : ∀ Q : PUnit → sProp 𝕄, iprop(free2 m c 1 ∗ (N1 -∗ Q ⟨⟩)) ⊢ WP c n1 Q)
    (hn2 : ∀ Q : PUnit → sProp 𝕄, iprop(free2 m c 2 ∗ (N2 -∗ Q ⟨⟩)) ⊢ WP c n2 Q) (Q : PUnit → sProp 𝕄) :
    iprop((records m K ∗ levAts L lv) ∗ qPts m arg1 c b ∗ (fly2 m c b 0 ∗ fly2 m c b 1 ∗ fly2 m c b 2 ∗ free2 m c 3) ∗ pend c b ∗ ow c (owedR c b.val)
        ∗ ((qPts m arg1 c b ∗ (N0 ∗ N1 ∗ N2 ∗ free2 m c 3) ∗ sent c b ∗ ow c (owedR c (b.val + 1))) -∗ Q ⟨⟩))
      ⊢ WP c (coreP i arg1 argK hK argV hV bufK bufV cc0_scratch2 cc0_scratch3 oL hoL tL oR hoR tR cc0_scratch8 cc0_scratch9 cc0_scratch10 cc0_scratch11 c n0 n1 n2) Q := by
  unfold coreP pend toks ownB rxB
  iintro ⟨⟨#Hr, #Hlev⟩, Hq, ⟨F0, F1, F2, F3⟩, ⟨Hbase, ⟨T0, T1, T2, T3⟩, ⟨Ho, Ht⟩, ⟨Rx, Rt⟩⟩, HO, Hk⟩
  ihave Ho := (oHeads_none m c b) $$ Ho
  simp only [WP]
  iapply (Entails.of_eq (wp_bind _ _ _ _ _ _).symm)
  iapply (wp_issue2 m c b 3 rfl rfl ((k0_off4_eq i).trans (by rw [hi]; rfl)))
  isplitl [F3]; · iexact F3
  iintro F3
  iapply (wp_group m arg1 c b 0 0 0 1 2 3 (by decide) rfl rfl ((k0_off5_eq i).trans (by rw [hi]; rfl)) rfl rfl rfl rfl rfl rfl rfl rfl
    ((k0_off6_eq i).trans (by rw [hi]; rfl)) ((k0_off7_eq i).trans (by rw [hi]; rfl)) ((k0_off8_eq i).trans (by rw [hi]; rfl)) ((k0_off9_eq i).trans (by rw [hi]; rfl)) b.val)
  isplitl [F0]; · iexact F0
  isplitl [Hq]; · iexact Hq
  isplitl [Ho]; · iexact Ho
  isplitl [HO]; · iexact HO
  isplitr; · iexact Hlev
  iintro ⟨F0, Hq, Ho, HO⟩
  iapply (Entails.of_eq (wp_bind _ _ _ _ _ _).symm)
  iapply (hn0 _)
  isplitl [F0]; · iexact F0
  iintro F0
  iapply (wp_group m arg1 c b 1 4 4 5 6 7 (by decide) rfl rfl ((k0_off11_eq i).trans (by rw [hi]; rfl)) rfl rfl rfl rfl rfl rfl rfl rfl
    ((k0_off12_eq i).trans (by rw [hi]; rfl)) ((k0_off13_eq i).trans (by rw [hi]; rfl)) ((k0_off14_eq i).trans (by rw [hi]; rfl)) ((k0_off15_eq i).trans (by rw [hi]; rfl)) b.val)
  isplitl [F1]; · iexact F1
  isplitl [Hq]; · iexact Hq
  isplitl [Ho]; · iexact Ho
  isplitl [HO]; · iexact HO
  isplitr; · iexact Hlev
  iintro ⟨F1, Hq, Ho, HO⟩
  iapply (Entails.of_eq (wp_bind _ _ _ _ _ _).symm)
  iapply (hn1 _)
  isplitl [F1]; · iexact F1
  iintro F1
  iapply (wp_group m arg1 c b 2 8 8 9 10 11 (by decide) rfl rfl ((k0_off17_eq i).trans (by rw [hi]; rfl)) rfl rfl rfl rfl rfl rfl rfl rfl
    ((k0_off18_eq i).trans (by rw [hi]; rfl)) ((k0_off19_eq i).trans (by rw [hi]; rfl)) ((k0_off20_eq i).trans (by rw [hi]; rfl)) ((k0_off21_eq i).trans (by rw [hi]; rfl)) b.val)
  isplitl [F2]; · iexact F2
  isplitl [Hq]; · iexact Hq
  isplitl [Ho]; · iexact Ho
  isplitl [HO]; · iexact HO
  isplitr; · iexact Hlev
  iintro ⟨F2, Hq, Ho, HO⟩
  iapply (Entails.of_eq (wp_bind _ _ _ _ _ _).symm)
  iapply (hn2 _)
  isplitl [F2]; · iexact F2
  iintro F2
  iapply (wp_group m arg1 c b 3 12 12 13 14 15 (by decide) rfl rfl ((k0_off4_eq i).trans (by rw [hi]; rfl)) rfl rfl rfl rfl rfl rfl rfl rfl
    ((k0_off23_eq i).trans (by rw [hi]; rfl)) ((k0_off24_eq i).trans (by rw [hi]; rfl)) ((k0_off25_eq i).trans (by rw [hi]; rfl)) ((k0_off26_eq i).trans (by rw [hi]; rfl)) b.val)
  isplitl [F3]; · iexact F3
  isplitl [Hq]; · iexact Hq
  isplitl [Ho]; · iexact Ho
  isplitl [HO]; · iexact HO
  isplitr; · iexact Hlev
  iintro ⟨F3, Hq, Ho, HO⟩
  ihave Ho := (oHeads_all m c b) $$ Ho
  iapply (Entails.of_eq (wp_bind _ _ _ _ _ _).symm)
  iapply (wp_stat m c b ((k0_off27_eq i).trans (by rw [hi])) _ _ (list16 (hM m c b)) (list16 (hL m c b)))
  isplitl [Ht]; · iexact Ht
  iintro Ht
  ihave HO := (Entails.of_eq (congrArg (ow c) (owedR_step c b))) $$ HO
  iapply (Entails.of_eq (wp_bind _ _ _ _ _ _).symm)
  iapply (wp_sendO m K c b _ ((k0_off28_eq i).trans (by rw [hi])) ((k0_off29_eq i).trans (by rw [hi])) (dev2_eq c _) _)
  isplitr; · iexact Hr
  isplitl [Ho]; · iexact Ho
  isplitl [Rx]; · iexact Rx
  isplitl [HO]; · iexact HO
  isplitl [T0]; · iexact T0
  isplitl [T1]; · iexact T1
  iintro ⟨C0, HO⟩
  iapply (wp_sendS m K c b _ ((k0_off28_eq i).trans (by rw [hi])) ((k0_off30_eq i).trans (by rw [hi])) (dev3_eq c _) _)
  isplitr; · iexact Hr
  isplitl [Ht]; · iexact Ht
  isplitl [Rt]; · iexact Rt
  isplitl [HO]; · iexact HO
  isplitl [T2]; · iexact T2
  isplitl [T3]; · iexact T3
  iintro ⟨C2, HO⟩
  iapply Hk
  isplitl [Hq]; · iexact Hq
  isplitl [F0 F1 F2 F3]
  · isplitl [F0]; · iexact F0
    isplitl [F1]; · iexact F1
    isplitl [F2] <;> iassumption
  isplitr [HO]
  · unfold sent
    isplitl [Hbase]; · iexact Hbase
    isplitl [C0] <;> iassumption
  iexact HO

end Cert.KernelIdeal.Run

end
-- ==== Proof.Whole.lean ====
/- The scratch buffers whole, and batch by batch or slot by slot. -/
module

public import proofs.«01_k».proof.Proof.Step
public import Idealize.ShloMosaic.Lib.Ring

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A family over eight or four, listed -/

theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The batches and slots cover their buffers and do not overlap -/

theorem oSet_disj (b : Memref sig .tc .vmem S8x16x8x128 .bf16) (i j : Fin 8) (h : i ≠ j) : Disjoint (oAt b i).view.set (oAt b j).view.set := by
  refine Finset.disjoint_left.mpr fun z h1 h2 => h ?_
  obtain ⟨x, rfl, hx⟩ := (mem_oSet b i z).mp h1
  obtain ⟨y, rfl, hy⟩ := (mem_oSet b j z).mp h2
  rw [b.view.emb.injective (hx.trans hy.symm)]
theorem tSet_disj (b : Memref sig .tc .vmem S8x8x32 .f32) (i j : Fin 8) (h : i ≠ j) : Disjoint (tAt b i).view.set (tAt b j).view.set := by
  refine Finset.disjoint_left.mpr fun z h1 h2 => h ?_
  obtain ⟨x, rfl, hx⟩ := (mem_tSet b i z).mp h1
  obtain ⟨y, rfl, hy⟩ := (mem_tSet b j z).mp h2
  rw [b.view.emb.injective (hx.trans hy.symm)]
theorem slotSet_disj (d : Memref sig .tc .vmem S4x1024x512 .f32) (i j : Fin 4) (h : i ≠ j) : Disjoint (slotAt d i).view.set (slotAt d j).view.set := by
  refine Finset.disjoint_left.mpr fun z h1 h2 => h ?_
  obtain ⟨x, rfl, hx⟩ := (mem_slotSet d i z).mp h1
  obtain ⟨y, rfl, hy⟩ := (mem_slotSet d j z).mp h2
  rw [d.view.emb.injective (hx.trans hy.symm)]

theorem oL_cover (c : Dev nD) : (Finset.univ : Finset (Fin 8)).biUnion (β := Idx ((c : Thread nD τ).loc cc0_scratch4)) (fun i : Fin 8 => ((oAt oL i).view.set : Finset (Idx ((c : Thread nD τ).loc cc0_scratch4)))) = Finset.univ :=
  Finset.eq_univ_iff_forall.mpr fun z => Finset.mem_biUnion.mpr ⟨z 0, Finset.mem_univ _, (mem_oSet oL _ z).mpr ⟨z, rfl, rfl⟩⟩
theorem oR_cover (c : Dev nD) : (Finset.univ : Finset (Fin 8)).biUnion (β := Idx ((c : Thread nD τ).loc cc0_scratch6)) (fun i : Fin 8 => ((oAt oR i).view.set : Finset (Idx ((c : Thread nD τ).loc cc0_scratch6)))) = Finset.univ :=
  Finset.eq_univ_iff_forall.mpr fun z => Finset.mem_biUnion.mpr ⟨z 0, Finset.mem_univ _, (mem_oSet oR _ z).mpr ⟨z, rfl, rfl⟩⟩
theorem tL_cover (c : Dev nD) : (Finset.univ : Finset (Fin 8)).biUnion (β := Idx ((c : Thread nD τ).loc cc0_scratch5)) (fun i : Fin 8 => ((tAt tL i).view.set : Finset (Idx ((c : Thread nD τ).loc cc0_scratch5)))) = Finset.univ :=
  Finset.eq_univ_iff_forall.mpr fun z => Finset.mem_biUnion.mpr ⟨z 0, Finset.mem_univ _, (mem_tSet tL _ z).mpr ⟨z, rfl, rfl⟩⟩
theorem tR_cover (c : Dev nD) : (Finset.univ : Finset (Fin 8)).biUnion (β := Idx ((c : Thread nD τ).loc cc0_scratch7)) (fun i : Fin 8 => ((tAt tR i).view.set : Finset (Idx ((c : Thread nD τ).loc cc0_scratch7)))) = Finset.univ :=
  Finset.eq_univ_iff_forall.mpr fun z => Finset.mem_biUnion.mpr ⟨z 0, Finset.mem_univ _, (mem_tSet tR _ z).mpr ⟨z, rfl, rfl⟩⟩
theorem bufK_cover (c : Dev nD) : (Finset.univ : Finset (Fin 4)).biUnion (β := Idx ((c : Thread nD τ).loc cc0_scratch0)) (fun g : Fin 4 => ((slotAt bufK g).view.set : Finset (Idx ((c : Thread nD τ).loc cc0_scratch0)))) = Finset.univ :=
  Finset.eq_univ_iff_forall.mpr fun z => Finset.mem_biUnion.mpr ⟨z 0, Finset.mem_univ _, (mem_slotSet bufK _ z).mpr ⟨z, rfl, rfl⟩⟩
theorem bufV_cover (c : Dev nD) : (Finset.univ : Finset (Fin 4)).biUnion (β := Idx ((c : Thread nD τ).loc cc0_scratch1)) (fun g : Fin 4 => ((slotAt bufV g).view.set : Finset (Idx ((c : Thread nD τ).loc cc0_scratch1)))) = Finset.univ :=
  Finset.eq_univ_iff_forall.mpr fun z => Finset.mem_biUnion.mpr ⟨z 0, Finset.mem_univ _, (mem_slotSet bufV _ z).mpr ⟨z, rfl, rfl⟩⟩

/-! ## The buffers of outputs and statistics -/

theorem oL_whole (c : Dev nD) (X : Vec F S8x16x8x128 .bf16) :
    ((c : Thread nD τ).loc cc0_scratch4 ↦{fullShare} X : sProp 𝕄) = bigSep Finset.univ fun i : Fin 8 => oPts oL c i X :=
  Ring.pointsTo_blocks (ℓ := (c : Thread nD τ).loc cc0_scratch4) (fun i : Fin 8 => (oAt oL i).view.set) (oSet_disj oL) (oL_cover c) X
theorem oR_whole (c : Dev nD) (X : Vec F S8x16x8x128 .bf16) :
    ((c : Thread nD τ).loc cc0_scratch6 ↦{fullShare} X : sProp 𝕄) = bigSep Finset.univ fun i : Fin 8 => oPts oR c i X :=
  Ring.pointsTo_blocks (ℓ := (c : Thread nD τ).loc cc0_scratch6) (fun i : Fin 8 => (oAt oR i).view.set) (oSet_disj oR) (oR_cover c) X
theorem tL_whole (c : Dev nD) (X : Vec F S8x8x32 .f32) :
    ((c : Thread nD τ).loc cc0_scratch5 ↦{fullShare} X : sProp 𝕄) = bigSep Finset.univ fun i : Fin 8 => tPts tL c i X :=
  Ring.pointsTo_blocks (ℓ := (c : Thread nD τ).loc cc0_scratch5) (fun i : Fin 8 => (tAt tL i).view.set) (tSet_disj tL) (tL_cover c) X
theorem tR_whole (c : Dev nD) (X : Vec F S8x8x32 .f32) :
    ((c : Thread nD τ).loc cc0_scratch7 ↦{fullShare} X : sProp 𝕄) = bigSep Finset.univ fun i : Fin 8 => tPts tR c i X :=
  Ring.pointsTo_blocks (ℓ := (c : Thread nD τ).loc cc0_scratch7) (fun i : Fin 8 => (tAt tR i).view.set) (tSet_disj tR) (tR_cover c) X

/-- The device's own buffers, from whole to batches. -/
theorem ownB_intro (c : Dev nD) (f : Vec F S8x16x8x128 .bf16) (g : Vec F S8x8x32 .f32) :
    iprop(((c : Thread nD τ).loc cc0_scratch4 ↦{fullShare} f) ∗ ((c : Thread nD τ).loc cc0_scratch5 ↦{fullShare} g))
      ⊢ (bigSep Finset.univ fun i : Fin 8 => ownB c i : sProp 𝕄) := by
  rw [oL_whole, tL_whole, ← bigSep_sep']
  refine bigSep_mono fun i _ => show iprop(oPts oL c i f ∗ tPts tL c i g) ⊢ (ownB c i : sProp 𝕄) from ?_
  unfold ownB
  iintro ⟨H1, H2⟩
  isplitl [H1]
  · iexists f; iexact H1
  · iexists g; iexact H2
/-- The receive buffers, from whole to batches. -/
theorem rxAny_intro (c : Dev nD) (f : Vec F S8x16x8x128 .bf16) (g : Vec F S8x8x32 .f32) :
    iprop(((c : Thread nD τ).loc cc0_scratch6 ↦{fullShare} f) ∗ ((c : Thread nD τ).loc cc0_scratch7 ↦{fullShare} g))
      ⊢ (rxAny c : sProp 𝕄) := by
  unfold rxAny
  rw [oR_whole, tR_whole, ← bigSep_sep']
  refine bigSep_mono fun i _ => show iprop(oPts oR c i f ∗ tPts tR c i g) ⊢ (iprop((∃ f, oPts oR c i f) ∗ (∃ f, tPts tR c i f)) : sProp 𝕄) from ?_
  iintro ⟨H1, H2⟩
  isplitl [H1]
  · iexists f; iexact H1
  · iexists g; iexact H2

theorem wPts_oL (c : Dev nD) (X : Vec F S8x16x8x128 .bf16) : (bigSep Finset.univ fun i : Fin 8 => oPts oL c i X : sProp 𝕄) ⊢ wPts oL c X := by
  rw [← oL_whole]
  unfold wPts
  simp only [owns_whole_eq]
  iintro H
  iexists X
  isplitr; · ipureintro; rfl
  iexact H
theorem wPts_oR (c : Dev nD) (X : Vec F S8x16x8x128 .bf16) : (bigSep Finset.univ fun i : Fin 8 => oPts oR c i X : sProp 𝕄) ⊢ wPts oR c X := by
  rw [← oR_whole]
  unfold wPts
  simp only [owns_whole_eq]
  iintro H
  iexists X
  isplitr; · ipureintro; rfl
  iexact H
theorem wPts_tL (c : Dev nD) (X : Vec F S8x8x32 .f32) : (bigSep Finset.univ fun i : Fin 8 => tPts tL c i X : sProp 𝕄) ⊢ wPts tL c X := by
  rw [← tL_whole]
  unfold wPts
  simp only [owns_whole_eq]
  iintro H
  iexists X
  isplitr; · ipureintro; rfl
  iexact H
theorem wPts_tR (c : Dev nD) (X : Vec F S8x8x32 .f32) : (bigSep Finset.univ fun i : Fin 8 => tPts tR c i X : sProp 𝕄) ⊢ wPts tR c X := by
  rw [← tR_whole]
  unfold wPts
  simp only [owns_whole_eq]
  iintro H
  iexists X
  isplitr; · ipureintro; rfl
  iexact H

theorem wPts_any (c : Dev nD) {s : Shape} {e : EltTy} (b : Memref sig .tc .vmem s e) (X : Vec F s e) :
    wPts b c X ⊢ (iprop(∃ f, b.view.loc (c : Thread nD τ) ↦[b.view.set]{fullShare} f) : sProp 𝕄) := by
  unfold wPts owns
  iintro ⟨%f, -, H⟩
  iexists f
  iexact H

/-- Every batch waited for: the four buffers whole, and the semaphores. -/
theorem done_all (c : Dev nD) : (bigSep Finset.univ fun i : Fin 8 => done m c i : sProp 𝕄)
    ⊢ iprop((wPts oL c (OL m c) ∗ wPts oR c (OL m (peer c)) ∗ wPts tL c (TL m c) ∗ wPts tR c (TL m (peer c)))
      ∗ (bigSep Finset.univ fun i : Fin 8 => semVal (kcell c (osO i)) 0) ∗ (bigSep Finset.univ fun i : Fin 8 => semVal (kcell c (rsO i)) 0)
      ∗ (bigSep Finset.univ fun i : Fin 8 => semVal (kcell c (osT i)) 0) ∗ (bigSep Finset.univ fun i : Fin 8 => semVal (kcell c (rsT i)) 0)) := by
  unfold done
  simp only [bigSep_sep']
  iintro ⟨⟨H1, H2, H3, H4⟩, Hz⟩
  isplitr [Hz]
  · isplitl [H1]; · iapply (wPts_oL c (OL m c)); iexact H1
    isplitl [H2]; · iapply (wPts_oR c (OL m (peer c))); iexact H2
    isplitl [H3]; · iapply (wPts_tL c (TL m c)); iexact H3
    iapply (wPts_tR c (TL m (peer c))); iexact H4
  iexact Hz

/-! ## The slots, and the arguments shared among them -/

/-- What is left of the keys' and values' arguments beside the slots' shares. -/
def rem (c : Dev nD) : sProp 𝕄 :=
  iprop(((c : Thread nD τ).loc main_arg1 ↦{Transfers.shareDrop fullShare 4} Kc m c) ∗ ((c : Thread nD τ).loc main_arg2 ↦{Transfers.shareDrop fullShare 4} Vc m c))

theorem free_all (s : Memref sig .tc .hbm S8x1024x16x128 .f32) (d : Memref sig .tc .vmem S4x1024x512 .f32) (sm : DmaSems sig S4) (c : Dev nD) (A : s.view.ty.Contents (Elt F)) :
    (bigSep Finset.univ fun g : Fin 4 => slotFree s d sm c A g : sProp 𝕄)
      = iprop((bigSep Finset.univ fun g : Fin 4 => iprop(∃ f, (slotAt d g).view.loc (c : Thread nD τ) ↦[(slotAt d g).view.set]{fullShare} f))
        ∗ (bigSep Finset.univ fun g : Fin 4 => semVal ((c : Thread nD τ), slotSem sm g) 0)
        ∗ bigSep Finset.univ fun g : Fin 4 => (s.view.loc (c : Thread nD τ) ↦[Finset.univ]{Transfers.shareTok fullShare 4 g} A)) := by
  unfold slotFree
  rw [bigSep_sep', bigSep_sep']

/-- The slots' semaphores. -/
def slotSems (c : Dev nD) : sProp 𝕄 :=
  iprop((bigSep Finset.univ fun g : Fin 4 => semVal ((c : Thread nD τ), slotSem cc0_scratch2 g) 0) ∗ (bigSep Finset.univ fun g : Fin 4 => semVal ((c : Thread nD τ), slotSem cc0_scratch3 g) 0))

theorem slot_any (d : Memref sig .tc .vmem S4x1024x512 .f32) (c : Dev nD) (g : Fin 4) (f : Buf (Elt F) ((slotAt d g).view.loc (c : Thread nD τ))) :
    ((slotAt d g).view.loc (c : Thread nD τ) ↦[(slotAt d g).view.set]{fullShare} f : sProp 𝕄)
      ⊢ iprop(∃ f, (slotAt d g).view.loc (c : Thread nD τ) ↦[(slotAt d g).view.set]{fullShare} f) := by
  iintro H
  iexists f
  iexact H

/-- At the start: the slots idle. -/
theorem free_intro (c : Dev nD) (fK fV : Vec F S4x1024x512 .f32) :
    iprop(((c : Thread nD τ).loc cc0_scratch0 ↦{fullShare} fK) ∗ ((c : Thread nD τ).loc cc0_scratch1 ↦{fullShare} fV) ∗ slotSems c
        ∗ ((c : Thread nD τ).loc main_arg1 ↦{fullShare} Kc m c) ∗ ((c : Thread nD τ).loc main_arg2 ↦{fullShare} Vc m c))
      ⊢ (iprop((bigSep Finset.univ fun g : Fin 4 => free2 m c g) ∗ rem m c) : sProp 𝕄) := by
  unfold free2 rem slotSems
  rw [bigSep_sep', free_all, free_all]
  iintro ⟨HbK, HbV, ⟨HsK, HsV⟩, HK, HV⟩
  ihave HbK' := (Entails.of_eq (Ring.pointsTo_blocks (ℓ := (c : Thread nD τ).loc cc0_scratch0) (fun g : Fin 4 => (slotAt bufK g).view.set) (slotSet_disj bufK) (bufK_cover c) fK)) $$ HbK
  ihave HbV' := (Entails.of_eq (Ring.pointsTo_blocks (ℓ := (c : Thread nD τ).loc cc0_scratch1) (fun g : Fin 4 => (slotAt bufV g).view.set) (slotSet_disj bufV) (bufV_cover c) fV)) $$ HbV
  ihave HK' := (Transfers.pointsTo_toks_split fullShare 4) $$ HK
  ihave HV' := (Transfers.pointsTo_toks_split fullShare 4) $$ HV
  icases HK' with ⟨RK, TK⟩
  icases HV' with ⟨RV, TV⟩
  isplitr [RK RV]
  · isplitl [HbK' HsK TK]
    · isplitl [HbK']
      · iapply (show (bigSep Finset.univ fun g : Fin 4 => ((c : Thread nD τ).loc cc0_scratch0 ↦[(slotAt bufK g).view.set]{fullShare} fK : sProp 𝕄))
          ⊢ bigSep Finset.univ fun g : Fin 4 => iprop(∃ f, (slotAt bufK g).view.loc (c : Thread nD τ) ↦[(slotAt bufK g).view.set]{fullShare} f) from
          bigSep_mono fun g _ => slot_any bufK c g fK)
        iexact HbK'
      isplitl [HsK] <;> iassumption
    · isplitl [HbV']
      · iapply (show (bigSep Finset.univ fun g : Fin 4 => ((c : Thread nD τ).loc cc0_scratch1 ↦[(slotAt bufV g).view.set]{fullShare} fV : sProp 𝕄))
          ⊢ bigSep Finset.univ fun g : Fin 4 => iprop(∃ f, (slotAt bufV g).view.loc (c : Thread nD τ) ↦[(slotAt bufV g).view.set]{fullShare} f) from
          bigSep_mono fun g _ => slot_any bufV c g fV)
        iexact HbV'
      isplitl [HsV] <;> iassumption
  · isplitl [RK] <;> iassumption

/-- At the end: the slots' buffers whole again, and the arguments. -/
theorem free_exit (c : Dev nD) :
    iprop((bigSep Finset.univ fun g : Fin 4 => free2 m c g) ∗ rem m c)
      ⊢ (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f) ∗ slotSems c
        ∗ ((c : Thread nD τ).loc main_arg1 ↦{fullShare} Kc m c) ∗ ((c : Thread nD τ).loc main_arg2 ↦{fullShare} Vc m c)) : sProp 𝕄) := by
  unfold free2 rem slotSems
  rw [bigSep_sep', free_all, free_all]
  iintro ⟨⟨⟨HbK, HsK, TK⟩, HbV, HsV, TV⟩, RK, RV⟩
  isplitl [HbK]
  · iapply (Ring.pointsTo_blocks_join_exists (ℓ := (c : Thread nD τ).loc cc0_scratch0) (fun g : Fin 4 => (slotAt bufK g).view.set) (slotSet_disj bufK) (bufK_cover c) (m _))
    iexact HbK
  isplitl [HbV]
  · iapply (Ring.pointsTo_blocks_join_exists (ℓ := (c : Thread nD τ).loc cc0_scratch1) (fun g : Fin 4 => (slotAt bufV g).view.set) (slotSet_disj bufV) (bufV_cover c) (m _))
    iexact HbV
  isplitl [HsK HsV]; · isplitl [HsK] <;> iassumption
  isplitl [RK TK]
  · iapply (Transfers.pointsTo_toks_join fullShare 4)
    isplitl [RK] <;> iassumption
  · iapply (Transfers.pointsTo_toks_join fullShare 4)
    isplitl [RV] <;> iassumption

end Cert.KernelIdeal.Run

end
-- ==== Proof.Point.lean ====
/- The body at the first, a middle and the last grid point. -/
module

public import proofs.«01_k».proof.Proof.Whole

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The batches, some sent and some to come -/

/-- The batches below `n` sent, the others to come. -/
def batches (c : Dev nD) (n : ℕ) : sProp 𝕄 := bigSep Finset.univ fun i : Fin 8 => if i.val < n then sent c i else pend c i
/-- All but batch `b`. -/
def others (c : Dev nD) (b : Fin 8) : sProp 𝕄 := bigSep (Finset.univ.erase b) fun i : Fin 8 => if i.val < b.val then sent c i else pend c i

theorem batches_take (c : Dev nD) (b : Fin 8) : (batches c b.val : sProp 𝕄) = iprop(pend c b ∗ others c b) := by
  unfold batches others
  rw [bigSep_erase (Finset.mem_univ b), if_neg (Nat.lt_irrefl _)]
  rfl
theorem batches_put (c : Dev nD) (b : Fin 8) : (batches c (b.val + 1) : sProp 𝕄) = iprop(sent c b ∗ others c b) := by
  unfold batches others
  rw [bigSep_erase (Finset.mem_univ b), if_pos (Nat.lt_succ_self _)]
  refine congrArg (fun X : sProp 𝕄 => iprop(sent c b ∗ X)) (bigSep_congr fun i hi => ?_)
  have hne : i.val ≠ b.val := fun e => (Finset.mem_erase.mp hi).1 (Fin.ext e)
  by_cases h : i.val < b.val
  · rw [if_pos h, if_pos (by omega)]
  · rw [if_neg h, if_neg (by omega)]
theorem batches_all (c : Dev nD) : (batches c 8 : sProp 𝕄) = bigSep Finset.univ fun i : Fin 8 => sent c i := by
  unfold batches
  exact bigSep_congr fun i _ => if_pos i.isLt
theorem batches_none (c : Dev nD) :
    iprop((bigSep Finset.univ fun i : Fin 8 => iprop(base c i ∗ toks c i ∗ ownB c i)) ∗ rxAny (peer c)) ⊢ (batches c 0 : sProp 𝕄) := by
  unfold batches rxAny
  rw [← bigSep_sep']
  refine bigSep_mono fun i _ => show iprop((base c i ∗ toks c i ∗ ownB c i) ∗ (∃ f, oPts oR (peer c) i f) ∗ (∃ f, tPts tR (peer c) i f)) ⊢ (if i.val < 0 then sent c i else pend c i : sProp 𝕄) from ?_
  rw [if_neg (Nat.not_lt_zero _)]
  unfold pend rxB
  iintro ⟨⟨H1, H2, H3⟩, H4⟩
  isplitl [H1]; · iexact H1
  isplitl [H2]; · iexact H2
  isplitl [H3]; · iexact H3
  iexact H4

/-! ## The final waits and the combination -/

/-- The exchange's semaphores at zero. -/
def exSems (c : Dev nD) : sProp 𝕄 :=
  iprop((bigSep Finset.univ fun i : Fin 8 => semVal (kcell c (osO i)) 0) ∗ (bigSep Finset.univ fun i : Fin 8 => semVal (kcell c (rsO i)) 0)
      ∗ (bigSep Finset.univ fun i : Fin 8 => semVal (kcell c (osT i)) 0) ∗ (bigSep Finset.univ fun i : Fin 8 => semVal (kcell c (rsT i)) 0))
/-- The exchange's buffers at the end. -/
def exBufs (c : Dev nD) : sProp 𝕄 := iprop(wPts oL c (OL m c) ∗ wPts oR c (OL m (peer c)) ∗ wPts tL c (TL m c) ∗ wPts tR c (TL m (peer c)))

section Fin

variable (arg4 : Memref sig .tc .vmem S8x8x16x128 .f32)

theorem outHeads_zero (c : Dev nD) (R : Vec F S8x8x16x128 .f32) :
    iprop(∃ f, arg4.view.loc (c : Thread nD τ) ↦[arg4.view.set]{fullShare} f) ⊢ (outHeads arg4 c R 0 : sProp 𝕄) := by
  unfold outHeads
  iintro ⟨%f, H⟩
  iexists f
  isplitr; · ipureintro; exact fun x hx => absurd hx (Nat.not_lt_zero _)
  iexact H
theorem outHeads_all (c : Dev nD) (R : Vec F S8x8x16x128 .f32) :
    outHeads arg4 c R 16 ⊢ (owns (c : Thread nD τ) arg4 fullShare R : sProp 𝕄) := by
  unfold outHeads owns
  iintro ⟨%f, %hf, H⟩
  iexists f
  isplitr; · ipureintro; exact funext fun x => hf x (x 2).isLt
  iexact H

theorem wp_fin (c : Dev nD) {hoL : oL.IsWhole} {hoR : oR.IsWhole} (Q : PUnit → sProp 𝕄) :
    iprop(records m K ∗ (bigSep Finset.univ fun i : Fin 8 => sent c i) ∗ ow c 0 ∗ (∃ f, arg4.view.loc (c : Thread nD τ) ↦[arg4.view.set]{fullShare} f)
        ∗ ((exBufs m c ∗ exSems c ∗ ow c 0 ∗ owns (c : Thread nD τ) arg4 fullShare (OUT m c)) -∗ Q ⟨⟩))
      ⊢ WP c (finP arg4 oL hoL tL oR hoR tR cc0_scratch8 cc0_scratch9 cc0_scratch10 cc0_scratch11) Q := by
  unfold finP
  rw [bigSep_8]
  simp only [WP]
  iintro ⟨#Hr, ⟨S0, S1, S2, S3, S4, S5, S6, S7⟩, HO, Hout, Hk⟩
  ihave Hout := (outHeads_zero arg4 c (OUT m c)) $$ Hout
  iapply (Entails.of_eq (wp_bind _ _ _ _ _ _).symm)
  iapply (wp_drain m K c 0 rfl rfl rfl _)
  isplitr; · iexact Hr
  isplitl [S0]; · iexact S0
  isplitl [HO]; · iexact HO
  iintro ⟨S0, HO⟩
  iapply (Entails.of_eq (wp_bind _ _ _ _ _ _).symm)
  iapply (wp_drain m K c 1 rfl rfl rfl _)
  isplitr; · iexact Hr
  isplitl [S1]; · iexact S1
  isplitl [HO]; · iexact HO
  iintro ⟨S1, HO⟩
  iapply (Entails.of_eq (wp_bind _ _ _ _ _ _).symm)
  iapply (wp_drain m K c 2 rfl rfl rfl _)
  isplitr; · iexact Hr
  isplitl [S2]; · iexact S2
  isplitl [HO]; · iexact HO
  iintro ⟨S2, HO⟩
  iapply (Entails.of_eq (wp_bind _ _ _ _ _ _).symm)
  iapply (wp_drain m K c 3 rfl rfl rfl _)
  isplitr; · iexact Hr
  isplitl [S3]; · iexact S3
  isplitl [HO]; · iexact HO
  iintro ⟨S3, HO⟩
  iapply (Entails.of_eq (wp_bind _ _ _ _ _ _).symm)
  iapply (wp_drain m K c 4 rfl rfl rfl _)
  isplitr; · iexact Hr
  isplitl [S4]; · iexact S4
  isplitl [HO]; · iexact HO
  iintro ⟨S4, HO⟩
  iapply (Entails.of_eq (wp_bind _ _ _ _ _ _).symm)
  iapply (wp_drain m K c 5 rfl rfl rfl _)
  isplitr; · iexact Hr
  isplitl [S5]; · iexact S5
  isplitl [HO]; · iexact HO
  iintro ⟨S5, HO⟩
  iapply (Entails.of_eq (wp_bind _ _ _ _ _ _).symm)
  iapply (wp_drain m K c 6 rfl rfl rfl _)
  isplitr; · iexact Hr
  isplitl [S6]; · iexact S6
  isplitl [HO]; · iexact HO
  iintro ⟨S6, HO⟩
  iapply (Entails.of_eq (wp_bind _ _ _ _ _ _).symm)
  iapply (wp_drain m K c 7 rfl rfl rfl _)
  isplitr; · iexact Hr
  isplitl [S7]; · iexact S7
  isplitl [HO]; · iexact HO
  iintro ⟨S7, HO⟩
  ihave Hd := ((Entails.of_eq (bigSep_8 (fun i : Fin 8 => done m c i)).symm).trans (done_all m c)) $$ [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6] <;> iassumption
  icases Hd with ⟨⟨HoL, HoR, HtL, HtR⟩, Hz⟩
  simp only [Prog.lift, Prog.bind_op, Prog.bind_ret, Prog.pure_eq_ret]
  ihave HtL := (Entails.of_eq (wPts.eq_1 tL c (TL m c))) $$ HtL
  ihave HtR := (Entails.of_eq (wPts.eq_1 tR c (TL m (peer c)))) $$ HtR
  ihave HtL := (Entails.of_eq (owns.eq_1 (c : Thread nD τ) tL fullShare (TL m c))) $$ HtL
  ihave HtR := (Entails.of_eq (owns.eq_1 (c : Thread nD τ) tR fullShare (TL m (peer c)))) $$ HtR
  icases HtL with ⟨%fa, %hfa, HtL⟩
  icases HtR with ⟨%fb, %hfb, HtR⟩
  iapply (wp_load 𝒱₀ (c : Thread nD τ) none Set.univ (m := tL) (View.setOn_subset_set _ _)) $$ HtL; iintro HtL
  rw [tM_read tL fa (TL m c) hfa]
  iapply (wp_load 𝒱₀ (c : Thread nD τ) none Set.univ (m := tL) (View.setOn_subset_set _ _)) $$ HtL; iintro HtL
  rw [tS_read tL fa (TL m c) hfa]
  iapply (wp_load 𝒱₀ (c : Thread nD τ) none Set.univ (m := tR) (View.setOn_subset_set _ _)) $$ HtR; iintro HtR
  rw [tM_read tR fb (TL m (peer c)) hfb]
  iapply (wp_load 𝒱₀ (c : Thread nD τ) none Set.univ (m := tR) (View.setOn_subset_set _ _)) $$ HtR; iintro HtR
  rw [tS_read tR fb (TL m (peer c)) hfb]
  iapply (Entails.of_eq (wp_bind _ _ _ _ _ _).symm)
  iapply (wp_comb arg4 c 0 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 1 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 2 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 3 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 4 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 5 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 6 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 7 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 8 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 9 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 10 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 11 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 12 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 13 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (Entails.of_eq (wp_bind _ _ _ _ _ _).symm)
  iapply (wp_comb arg4 c 14 (W0 m c) (W1 m c) (OL m c) (OL m (peer c)) rfl rfl rfl _)
  isplitl [HoL]; · iexact HoL
  isplitl [HoR]; · iexact HoR
  isplitl [Hout]; · iexact Hout
  iintro ⟨HoL, HoR, Hout⟩
  iapply (wp_comb arg4 c 15 (W0 m c) (W1 m c) (OL m c) (OL m (peer c)) rfl rfl rfl _)
  isplitl [HoL]; · iexact HoL
  isplitl [HoR]; · iexact HoR
  isplitl [Hout]; · iexact Hout
  iintro ⟨HoL, HoR, Hout⟩
  ihave Hout := ((Entails.of_eq (show outHeads arg4 c (outW (W0 m c) (W1 m c) (OL m c) (OL m (peer c))) ((15 : Fin 16).val + 1) = outHeads arg4 c (OUT m c) 16 from rfl)).trans (outHeads_all arg4 c (OUT m c))) $$ Hout
  iapply Hk
  unfold exBufs exSems wPts
  isplitl [HoL HoR HtL HtR]
  · isplitl [HoL]; · iexact HoL
    isplitl [HoR]; · iexact HoR
    unfold owns
    isplitl [HtL]
    · iexists fa
      isplitr; · ipureintro; exact hfa
      iexact HtL
    · iexists fb
      isplitr; · ipureintro; exact hfb
      iexact HtR
  isplitl [Hz]; · iexact Hz
  isplitl [HO] <;> iassumption

end Fin

/-! ## The states between grid points -/

/-- The barrier: the device's position and credit, and the duty to its partner. -/
def bar0 (c : Dev nD) : sProp 𝕄 :=
  iprop(atPos ER (kcell c none) 0 ∅ 0 ∗ cred (tallyAt (kcell c none) () 1) ∗ dutyTok ER (kcell (peer c) none) 0 ())
/-- The slots, three being filled with batch `b`'s chunks; all idle. -/
def flyAll (c : Dev nD) (b : Fin 8) : sProp 𝕄 := iprop(fly2 m c b 0 ∗ fly2 m c b 1 ∗ fly2 m c b 2 ∗ free2 m c 3)
def freeAll (c : Dev nD) : sProp 𝕄 := iprop(free2 m c 0 ∗ free2 m c 1 ∗ free2 m c 2 ∗ free2 m c 3)

/-- Before the first grid point. -/
def PhiA (c : Dev nD) : sProp 𝕄 :=
  iprop((records m K ∗ levAts L lv) ∗ (bigSep Finset.univ fun i : Fin 8 => iprop(base c i ∗ toks c i ∗ ownB c i)) ∗ rxAny c ∗ bar0 c ∗ freeAll m c)
/-- Before grid point `b`, not the first. -/
def PhiM (c : Dev nD) (b : Fin 8) : sProp 𝕄 :=
  iprop((records m K ∗ levAts L lv) ∗ batches c b.val ∗ flyAll m c b ∗ semVal (kcell c none) 0)
/-- After the last grid point. -/
def PhiZ (c : Dev nD) : sProp 𝕄 := iprop(exBufs m c ∗ exSems c ∗ freeAll m c ∗ semVal (kcell c none) 0)

theorem wp_skip (c : Dev nD) (P : sProp 𝕄) (Q : PUnit → sProp 𝕄) : iprop(P ∗ (P -∗ Q ⟨⟩)) ⊢ WP c (pure ⟨⟩) Q := by
  simp only [WP, Prog.pure_eq_ret]
  rw [wp_ret]
  iintro ⟨H, Hk⟩
  imodintro
  iapply Hk
  iexact H

/-- A device's signal hands its receive buffers to its partner. -/
theorem bar_pay (c : Dev nD) : (rxAny c : sProp 𝕄) ⊢ (exch m).payload (kcell (peer c) none) 0 () := by
  rw [payload_cell]
  show (rxAny c : sProp 𝕄) ⊢ rxAny (peer (peer c))
  rw [peer_peer]

section Points

variable (arg1 : Memref sig .tc .vmem S1x8x16x128 .f32) (arg4 : Memref sig .tc .vmem S8x8x16x128 .f32)
variable {hK : argK.IsWhole} {hV : argV.IsWhole} {hoL : oL.IsWhole} {hoR : oR.IsWhole}

theorem wp_mid (c : Dev nD) (b b' : Fin 8) (hb : b'.val = b.val + 1) (i : grid0.Coords) (hi : (i 0).val = b.val)
    (h3 : k0_cond3 i = 1#1) (h4 : k0_cond4 i = 1#1) (h5 : k0_cond5 i = 1#1) (Q : PUnit → sProp 𝕄) :
    iprop(PhiM m K c b ∗ qPts m arg1 c b ∗ ow c (owedR c b.val)
        ∗ ((PhiM m K c b' ∗ qPts m arg1 c b ∗ ow c (owedR c b'.val)) -∗ Q ⟨⟩))
      ⊢ WP c (midP i arg1 argK hK argV hV bufK bufV cc0_scratch2 cc0_scratch3 oL hoL tL oR hoR tR cc0_scratch8 cc0_scratch9 cc0_scratch10 cc0_scratch11 h3 h4 h5) Q := by
  unfold midP PhiM flyAll
  simp only [WP, Prog.lift, Prog.bind_op, Prog.bind_ret, wp_deviceId]
  rw [batches_take c b, hb, batches_put c b]
  iintro ⟨⟨#Hr, ⟨Hp, Hothers⟩, Hf, Hz⟩, Hq, HO, Hk⟩
  iapply (wp_core m K arg1 c b i hi _ _ _ (fly2 m c b' 0) (fly2 m c b' 1) (fly2 m c b' 2)
    (fun Q => wp_issue2 m c b' 0 rfl rfl ((k0_off10_eq i).trans (by rw [hi, hb]; rfl)) Q)
    (fun Q => wp_issue2 m c b' 1 rfl rfl ((k0_off16_eq i).trans (by rw [hi, hb]; rfl)) Q)
    (fun Q => wp_issue2 m c b' 2 rfl rfl ((k0_off22_eq i).trans (by rw [hi, hb]; rfl)) Q) _)
  isplitr; · iexact Hr
  isplitl [Hq]; · iexact Hq
  isplitl [Hf]; · iexact Hf
  isplitl [Hp]; · iexact Hp
  isplitl [HO]; · iexact HO
  iintro ⟨Hq, Hf, Hs, HO⟩
  iapply Hk
  isplitr [Hq HO]
  · isplitr; · iexact Hr
    isplitl [Hs Hothers]; · isplitl [Hs] <;> iassumption
    isplitl [Hf] <;> iassumption
  isplitl [Hq] <;> iassumption

theorem wp_last (c : Dev nD) (i : grid0.Coords) (hi : (i 0).val = 7) (Q : PUnit → sProp 𝕄) :
    iprop(PhiM m K c 7 ∗ qPts m arg1 c 7 ∗ (∃ f, arg4.view.loc (c : Thread nD τ) ↦[arg4.view.set]{fullShare} f) ∗ ow c (owedR c 7)
        ∗ ((PhiZ m c ∗ qPts m arg1 c 7 ∗ owns (c : Thread nD τ) arg4 fullShare (OUT m c) ∗ ow c 0) -∗ Q ⟨⟩))
      ⊢ WP c (lastP i arg1 argK hK argV hV arg4 bufK bufV cc0_scratch2 cc0_scratch3 oL hoL tL oR hoR tR cc0_scratch8 cc0_scratch9 cc0_scratch10 cc0_scratch11) Q := by
  unfold lastP PhiM flyAll
  simp only [WP, Prog.lift, Prog.bind_op, Prog.bind_ret, wp_deviceId]
  rw [batches_take c 7]
  iintro ⟨⟨#Hr, ⟨Hp, Hothers⟩, Hf, Hz⟩, Hq, Hout, HO, Hk⟩
  iapply (Entails.of_eq (wp_bind _ _ _ _ _ _).symm)
  iapply (wp_core m K arg1 c 7 i hi _ _ _ (free2 m c 0) (free2 m c 1) (free2 m c 2)
    (fun Q => wp_skip c _ Q) (fun Q => wp_skip c _ Q) (fun Q => wp_skip c _ Q) _)
  isplitr; · iexact Hr
  isplitl [Hq]; · iexact Hq
  isplitl [Hf]; · iexact Hf
  isplitl [Hp]; · iexact Hp
  isplitl [HO]; · iexact HO
  iintro ⟨Hq, Hf, Hs, HO⟩
  ihave HO := (Entails.of_eq (show ow (F := F) c (owedR c ((7 : Fin 8).val + 1)) = ow c 0 from congrArg (ow (F := F) c) (owedR_eight c 8 (Nat.le_refl _)))) $$ HO
  ihave Hb := (Entails.of_eq ((batches_put c 7).symm.trans (batches_all c))) $$ [Hs Hothers]
  · isplitl [Hs] <;> iassumption
  icases Hr with ⟨#Hr, -⟩
  iapply (wp_fin m K arg4 c _)
  isplitr; · iexact Hr
  isplitl [Hb]; · iexact Hb
  isplitl [HO]; · iexact HO
  isplitl [Hout]; · iexact Hout
  iintro ⟨Hbufs, Hsems, HO, Hout⟩
  iapply Hk
  unfold PhiZ freeAll
  isplitr [Hq Hout HO]
  · isplitl [Hbufs]; · iexact Hbufs
    isplitl [Hsems]; · iexact Hsems
    isplitl [Hf] <;> iassumption
  isplitl [Hq]; · iexact Hq
  isplitl [Hout] <;> iassumption

theorem wp_first (c : Dev nD) (i : grid0.Coords) (hi : (i 0).val = 0) (h1 : k0_cond1 i = 1#1) (h2 : k0_cond2 i = 1#1)
    (h3 : k0_cond3 i = 1#1) (h4 : k0_cond4 i = 1#1) (h5 : k0_cond5 i = 1#1) (Q : PUnit → sProp 𝕄) :
    iprop(PhiA m K c ∗ qPts m arg1 c 0 ∗ ow c (O₀ c)
        ∗ ((PhiM m K c 1 ∗ qPts m arg1 c 0 ∗ ow c (owedR c 1)) -∗ Q ⟨⟩))
      ⊢ WP c (firstP i arg1 argK hK argV hV bufK bufV cc0_scratch2 cc0_scratch3 oL hoL tL oR hoR tR cc0_scratch8 cc0_scratch9 cc0_scratch10 cc0_scratch11 h1 h2 h3 h4 h5) Q := by
  unfold firstP PhiA PhiM freeAll flyAll bar0
  simp only [WP, semSignalWord, semWaitWord, Prog.lift, Prog.bind_op, Prog.bind_ret, Prog.pure_eq_ret, wp_deviceId]
  rw [dev1_eq c]
  iintro ⟨⟨⟨#Hr, #Hlev⟩, Hb, Hrx, ⟨Hat, Hc, Ht⟩, ⟨F0, F1, F2, F3⟩⟩, Hq, HO, Hk⟩
  ihave HO := (Entails.of_eq (ow.eq_1 c (O₀ c))) $$ HO
  icases HO with ⟨%W, HO⟩
  iapply (Rounds.wp_signal 𝒱₀ ER (exch m) (c : Thread nD τ) none (dst := (peer c : Thread nD τ)) (κ := K (peer c, none))
      (d := ()) (mem_duties m (peer c) none) ((amount_cell m (peer c) none).trans (by decide)) () (owedR c 0) rfl) $$ [HO Ht Hrx]
  · isplitr; · iapply (inv_at m K (peer c) none); iexact Hr
    isplitl [HO]; · iexact HO
    isplitl [Ht]; · iexact Ht
    isplitl [Hrx]; · iapply (bar_pay m c); iexact Hrx
    iapply (reached_at m K (peer c) none); iexact Hr
  iintro HO
  iapply (wp_wait_cell m K c none (wpE_semWait_eq 𝒱₀ (c : Thread nD τ) none Set.univ) (owedR c 0))
  isplitr; · ipureintro; exact ⟨rfl, by decide⟩
  isplitr; · iexact Hr
  isplitl [Hc]; · iexact Hc
  isplitl [HO]; · unfold ow; iexists W; iexact HO
  isplitr; · iapply (mayWait_owedR c (csem none) 0 (Nat.le_of_eq (lv_bar c))); iexact Hlev
  isplitl [Hat]; · iexact Hat
  iintro ⟨HO, Hp, Hz⟩
  ihave Hb := ((batches_none c).trans (Entails.of_eq (batches_take c 0))) $$ [Hb Hp]
  · isplitl [Hb]; · iexact Hb
    iapply (Entails.of_eq (show pay m c none = rxAny (peer c) from rfl)) $$ Hp
  icases Hb with ⟨Hp, Hothers⟩
  iapply (Entails.of_eq (wp_bind _ _ _ _ _ _).symm)
  iapply (wp_issue2 m c 0 0 rfl rfl ((k0_off1_eq i).trans (by rw [hi]; rfl)))
  isplitl [F0]; · iexact F0
  iintro F0
  iapply (Entails.of_eq (wp_bind _ _ _ _ _ _).symm)
  iapply (wp_issue2 m c 0 1 rfl rfl ((k0_off2_eq i).trans (by rw [hi]; rfl)))
  isplitl [F1]; · iexact F1
  iintro F1
  iapply (Entails.of_eq (wp_bind _ _ _ _ _ _).symm)
  iapply (wp_issue2 m c 0 2 rfl rfl ((k0_off3_eq i).trans (by rw [hi]; rfl)))
  isplitl [F2]; · iexact F2
  iintro F2
  iapply (wp_core m K arg1 c 0 i hi _ _ _ (fly2 m c 1 0) (fly2 m c 1 1) (fly2 m c 1 2)
    (fun Q => wp_issue2 m c 1 0 rfl rfl ((k0_off10_eq i).trans (by rw [hi]; rfl)) Q)
    (fun Q => wp_issue2 m c 1 1 rfl rfl ((k0_off16_eq i).trans (by rw [hi]; rfl)) Q)
    (fun Q => wp_issue2 m c 1 2 rfl rfl ((k0_off22_eq i).trans (by rw [hi]; rfl)) Q) _)
  isplitr; · isplitr; · iexact Hr
             iexact Hlev
  isplitl [Hq]; · iexact Hq
  isplitl [F0 F1 F2 F3]
  · isplitl [F0]; · iexact F0
    isplitl [F1]; · iexact F1
    isplitl [F2] <;> iassumption
  isplitl [Hp]; · iexact Hp
  isplitl [HO]; · iexact HO
  iintro ⟨Hq, Hf, Hs, HO⟩
  ihave Hb := (Entails.of_eq (batches_put c 0).symm) $$ [Hs Hothers]
  · isplitl [Hs] <;> iassumption
  iapply Hk
  isplitr [Hq HO]
  · isplitr
    · isplitr; · iexact Hr
      iexact Hlev
    isplitl [Hb]; · iexact Hb
    isplitl [Hf] <;> iassumption
  isplitl [Hq]; · iexact Hq
  iexact HO

end Points

end Cert.KernelIdeal.Run

end
-- ==== Proof.Oblig.lean ====
/- The pipeline's data and its body obligation. -/
module

public import proofs.«01_k».proof.Proof.Point

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which grid point it is -/

theorem pt_lt (t : Fin cfg0.N) : t.val < 8 := by
  have h := t.isLt
  have : cfg0.N = 8 := N_0
  omega
/-- The batch of a grid point. -/
abbrev bOf (t : Fin cfg0.N) : Fin 8 := ⟨t.val, pt_lt t⟩
theorem coord_eq (t : Fin cfg0.N) : ((grid0.coords t) 0).val = t.val := by
  have h : ∀ t : Fin grid0.N, ((grid0.coords t) 0).val = t.val := by decide +kernel
  exact h t
theorem c1_iff : ∀ i : grid0.Coords, k0_cond1 i = 1#1 ↔ (i 0).val = 0 := by decide +kernel
theorem c2_iff : ∀ i : grid0.Coords, k0_cond2 i = 1#1 ↔ (i 0).val = 0 := by decide +kernel
theorem c3_iff : ∀ i : grid0.Coords, k0_cond3 i = 1#1 ↔ (i 0).val < 7 := by decide +kernel
theorem c4_iff : ∀ i : grid0.Coords, k0_cond4 i = 1#1 ↔ (i 0).val < 7 := by decide +kernel
theorem c5_iff : ∀ i : grid0.Coords, k0_cond5 i = 1#1 ↔ (i 0).val < 7 := by decide +kernel
theorem c6_iff : ∀ i : grid0.Coords, k0_cond6 i = 1#1 ↔ (i 0).val = 7 := by decide +kernel

/-! ## The pipeline's data -/

/-- What a device holds before grid point `n`. -/
def PhiN (c : Dev nD) (n : ℕ) : sProp 𝕄 :=
  if n = 0 then iprop((∃ K, PhiA m K c) ∗ rem m c)
  else if h : n < 8 then iprop((∃ K, PhiM m K c ⟨n, h⟩) ∗ rem m c)
  else iprop(PhiZ m c ∗ rem m c)
/-- What a device owes before grid point `n`. -/
def owedN (c : Dev nD) (n : ℕ) : CellTallies nD τ sig Unit := if n = 0 then O₀ c else owedR c n

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => OUT m c
  Φ t := PhiN m c t.val
  q _ := fullShare
  owed t := owedN c t.val

theorem bigSep_W (Φ : Fin cfg0.W → sProp 𝕄) : bigSep Finset.univ Φ = iprop(Φ (0 : Fin 2) ∗ Φ (1 : Fin 2)) := bigSep_W0 Φ

/-- The queries' staging buffer holds the batch's block. -/
theorem before_q (c : Dev nD) (t : Fin cfg0.N) (d) : (dats m ρ 0 c).before 0 t d = iblk m c 0 t :=
  ((dats m ρ 0 c).before_in_eq_fetched 0 rfl (fun _ => rfl) (fun _ _ _ => rfl) (fun t => rfl) t d).trans rfl

/-- The queries' staging buffer, as the body reads it. -/
theorem q_eq (c : Dev nD) (t : Fin cfg0.N) (b : Fin 8) (hb : bOf t = b) :
    (owns (c : Thread nD τ) ((cfg0.win 0).stage (cfg0.slots t 0)) fullShare (iblk m c 0 t) : sProp 𝕄)
      = qPts m (win0_0.stage (cfg0.slots t 0)) c b := by subst hb; rfl

theorem out_any (c : Dev nD) (t : Fin cfg0.N) (X) :
    (owns (c : Thread nD τ) ((cfg0.win 1).stage (cfg0.slots t 1)) fullShare X : sProp 𝕄)
      ⊢ iprop(∃ f, (win0_1.stage (cfg0.slots t 1)).view.loc (c : Thread nD τ) ↦[(win0_1.stage (cfg0.slots t 1)).view.set]{fullShare} f) := by
  unfold owns
  iintro ⟨%f, -, H⟩
  iexists f
  iexact H

theorem owed_start (c : Dev nD) (t : Fin cfg0.N) : (dats m ρ 0 c).owesAt () t.castSucc ⊢ (ow c (owedN c t.val) : sProp 𝕄) := by
  unfold Dat.owesAt Pipeline.owesWithin ow
  iintro ⟨%W, -, H⟩
  iexists W
  iexact H
theorem owed_end (c : Dev nD) (t : Fin cfg0.N) : ow c (owedN c (t.val + 1)) ⊢ ((dats m ρ 0 c).owesAt () t.succ : sProp 𝕄) := by
  unfold Dat.owesAt Pipeline.owesWithin ow
  iintro ⟨%W, H⟩
  iexists W
  isplitr; · ipureintro; exact fun _ _ => Or.inl trivial
  iexact H

/-- The result's buffer after grid point `t`. -/
abbrev outAfter (c : Dev nD) (t : Fin cfg0.N) : sProp 𝕄 :=
  match cfg0.idle 1 (cfg0.grid.coords t) with
  | true =>
    match (cfg0.win 1).flush t with
    | false => iprop(∃ d, owns (c : Thread nD τ) ((cfg0.win 1).stage (cfg0.slots t 1)) fullShare ((dats m ρ 0 c).before 1 t d))
    | true => owns (c : Thread nD τ) ((cfg0.win 1).stage (cfg0.slots t 1)) fullShare ((dats m ρ 0 c).after 1 t)
  | false => owns (c : Thread nD τ) ((cfg0.win 1).stage (cfg0.slots t 1)) fullShare ((dats m ρ 0 c).after 1 t)

theorem outAfter_idle (c : Dev nD) (t : Fin cfg0.N) (h : t.val < 7) :
    outAfter m ρ c t = iprop(∃ d, owns (c : Thread nD τ) ((cfg0.win 1).stage (cfg0.slots t 1)) fullShare ((dats m ρ 0 c).before 1 t d)) := by
  have h1 : cfg0.idle 1 (cfg0.grid.coords t) = true := by
    show (!(k0_cond6 (grid0.coords t) == 1#1)) = true
    rw [Bool.not_eq_true', beq_eq_false_iff_ne]
    exact fun e => by have := (c6_iff _).mp e; rw [coord_eq] at this; omega
  have h2 : (cfg0.win 1).flush t = false := by
    rw [Bool.eq_false_iff]
    exact fun e => by have := (flush0_1 t).mp e; omega
  unfold outAfter
  rw [h1, h2]
theorem outAfter_last (c : Dev nD) (t : Fin cfg0.N) (h : t.val = 7) :
    outAfter m ρ c t = owns (c : Thread nD τ) (win0_1.stage (cfg0.slots t 1)) fullShare (OUT m c) := by
  have h1 : cfg0.idle 1 (cfg0.grid.coords t) = false := by
    show (!(k0_cond6 (grid0.coords t) == 1#1)) = false
    rw [(c6_iff _).mpr (by rw [coord_eq]; exact h)]
    rfl
  unfold outAfter
  rw [h1]
  rfl

def bodyPre (c : Dev nD) (t : Fin cfg0.N) : sProp 𝕄 :=
  iprop(PhiN m c t.val ∗ (dats m ρ 0 c).owesAt () t.castSucc
    ∗ (∃ d, owns (c : Thread nD τ) ((cfg0.win 0).stage (cfg0.slots t 0)) fullShare ((dats m ρ 0 c).before 0 t d))
    ∗ (∃ d, owns (c : Thread nD τ) ((cfg0.win 1).stage (cfg0.slots t 1)) fullShare ((dats m ρ 0 c).before 1 t d)))
def bodyPost (c : Dev nD) (t : Fin cfg0.N) : sProp 𝕄 :=
  iprop(PhiN m c (t.val + 1) ∗ (dats m ρ 0 c).owesAt () t.succ ∗ qPts m (win0_0.stage (cfg0.slots t 0)) c (bOf t) ∗ outAfter m ρ c t)

theorem at_first (c : Dev nD) (t : Fin cfg0.N) (ht : t.val = 0) :
    bodyPre m ρ c t ⊢ WP c (bodyAt0 t) (fun _ => bodyPost m ρ c t) := by
  unfold bodyPre bodyPost
  simp only [before_q]
  rw [outAfter_idle m ρ c t (by omega)]
  have hi := coord_eq t
  have hb : bOf t = 0 := Fin.ext ht
  have h1 := (c1_iff (grid0.coords t)).mpr (by rw [hi, ht])
  have h2 := (c2_iff (grid0.coords t)).mpr (by rw [hi, ht])
  have h3 := (c3_iff (grid0.coords t)).mpr (by rw [hi, ht]; decide)
  have h4 := (c4_iff (grid0.coords t)).mpr (by rw [hi, ht]; decide)
  have h5 := (c5_iff (grid0.coords t)).mpr (by rw [hi, ht]; decide)
  have h6 : ¬ k0_cond6 (grid0.coords t) = 1#1 := fun e => by have := (c6_iff _).mp e; rw [hi] at this; omega
  unfold bodyAt0
  rw [body_first _ _ _ _ _ _ _ _ _ _ _ _ _ _ _ _ _ _ _ _ _ _ _ _ _ _ _ h1 h2 h3 h4 h5 h6, hb]
  rw [show PhiN m c t.val = iprop((∃ K, PhiA m K c) ∗ rem m c) from if_pos ht,
    show PhiN m c (t.val + 1) = iprop((∃ K, PhiM m K c 1) ∗ rem m c) from by rw [ht]; rfl]
  iintro ⟨⟨⟨%K, HA⟩, Hrem⟩, HO, ⟨%d, Hq⟩, Hout⟩
  ihave HO := ((owed_start m ρ c t).trans (Entails.of_eq (show ow (F := F) c (owedN c t.val) = ow c (O₀ c) from by rw [ht]; rfl))) $$ HO
  ihave Hq := (Entails.of_eq (q_eq m c t _ hb)) $$ Hq
  iapply (wp_first m K (win0_0.stage (cfg0.slots t 0)) c (grid0.coords t) (hi.trans ht) h1 h2 h3 h4 h5 _)
  isplitl [HA]; · iexact HA
  isplitl [Hq]; · iexact Hq
  isplitl [HO]; · iexact HO
  iintro ⟨HM, Hq, HO⟩
  ihave HO := ((Entails.of_eq (show ow (F := F) c (owedR c 1) = ow c (owedN c (t.val + 1)) from by rw [ht]; rfl)).trans (owed_end m ρ c t)) $$ HO
  isplitl [HM Hrem]
  · isplitl [HM]; · iexists K; iexact HM
    iexact Hrem
  isplitl [HO]; · iexact HO
  isplitl [Hq]; · iexact Hq
  iexact Hout

theorem at_mid (c : Dev nD) (t : Fin cfg0.N) (ht : 0 < t.val) (ht' : t.val < 7) :
    bodyPre m ρ c t ⊢ WP c (bodyAt0 t) (fun _ => bodyPost m ρ c t) := by
  unfold bodyPre bodyPost
  simp only [before_q]
  rw [outAfter_idle m ρ c t (by omega)]
  have hi := coord_eq t
  have h1 : ¬ k0_cond1 (grid0.coords t) = 1#1 := fun e => by have := (c1_iff _).mp e; rw [hi] at this; omega
  have h2 : ¬ k0_cond2 (grid0.coords t) = 1#1 := fun e => by have := (c2_iff _).mp e; rw [hi] at this; omega
  have h3 := (c3_iff (grid0.coords t)).mpr (by rw [hi]; exact ht')
  have h4 := (c4_iff (grid0.coords t)).mpr (by rw [hi]; exact ht')
  have h5 := (c5_iff (grid0.coords t)).mpr (by rw [hi]; exact ht')
  have h6 : ¬ k0_cond6 (grid0.coords t) = 1#1 := fun e => by have := (c6_iff _).mp e; rw [hi] at this; omega
  have hlt : t.val + 1 < 8 := by omega
  unfold bodyAt0
  rw [body_mid _ _ _ _ _ _ _ _ _ _ _ _ _ _ _ _ _ _ _ _ _ _ _ _ _ _ _ h1 h2 h3 h4 h5 h6]
  rw [show PhiN m c t.val = iprop((∃ K, PhiM m K c (bOf t)) ∗ rem m c) from (if_neg (by omega)).trans (dif_pos (pt_lt t)),
    show PhiN m c (t.val + 1) = iprop((∃ K, PhiM m K c ⟨t.val + 1, hlt⟩) ∗ rem m c) from (if_neg (by omega)).trans (dif_pos hlt)]
  iintro ⟨⟨⟨%K, HA⟩, Hrem⟩, HO, ⟨%d, Hq⟩, Hout⟩
  ihave HO := ((owed_start m ρ c t).trans (Entails.of_eq (show ow (F := F) c (owedN c t.val) = ow c (owedR c (bOf t).val) from congrArg (ow c) (if_neg (by omega))))) $$ HO
  ihave Hq := (Entails.of_eq (q_eq m c t _ rfl)) $$ Hq
  iapply (wp_mid m K (win0_0.stage (cfg0.slots t 0)) c (bOf t) ⟨t.val + 1, hlt⟩ rfl (grid0.coords t) hi h3 h4 h5 _)
  isplitl [HA]; · iexact HA
  isplitl [Hq]; · iexact Hq
  isplitl [HO]; · iexact HO
  iintro ⟨HM, Hq, HO⟩
  ihave HO := ((Entails.of_eq (show ow (F := F) c (owedR c (t.val + 1)) = ow c (owedN c (t.val + 1)) from congrArg (ow c) (if_neg (by omega)).symm)).trans (owed_end m ρ c t)) $$ HO
  isplitl [HM Hrem]
  · isplitl [HM]; · iexists K; iexact HM
    iexact Hrem
  isplitl [HO]; · iexact HO
  isplitl [Hq]; · iexact Hq
  iexact Hout

theorem at_last (c : Dev nD) (t : Fin cfg0.N) (ht : t.val = 7) :
    bodyPre m ρ c t ⊢ WP c (bodyAt0 t) (fun _ => bodyPost m ρ c t) := by
  unfold bodyPre bodyPost
  simp only [before_q]
  rw [outAfter_last m ρ c t ht]
  have hi := coord_eq t
  have hb : bOf t = 7 := Fin.ext ht
  have h1 : ¬ k0_cond1 (grid0.coords t) = 1#1 := fun e => by have := (c1_iff _).mp e; rw [hi] at this; omega
  have h2 : ¬ k0_cond2 (grid0.coords t) = 1#1 := fun e => by have := (c2_iff _).mp e; rw [hi] at this; omega
  have h3 : ¬ k0_cond3 (grid0.coords t) = 1#1 := fun e => by have := (c3_iff _).mp e; rw [hi] at this; omega
  have h4 : ¬ k0_cond4 (grid0.coords t) = 1#1 := fun e => by have := (c4_iff _).mp e; rw [hi] at this; omega
  have h5 : ¬ k0_cond5 (grid0.coords t) = 1#1 := fun e => by have := (c5_iff _).mp e; rw [hi] at this; omega
  have h6 := (c6_iff (grid0.coords t)).mpr (by rw [hi]; exact ht)
  unfold bodyAt0
  rw [body_last _ _ _ _ _ _ _ _ _ _ _ _ _ _ _ _ _ _ _ _ _ _ _ _ _ _ _ h1 h2 h3 h4 h5 h6, hb]
  rw [show PhiN m c t.val = iprop((∃ K, PhiM m K c 7) ∗ rem m c) from by rw [ht]; rfl,
    show PhiN m c (t.val + 1) = iprop(PhiZ m c ∗ rem m c) from by rw [ht]; rfl]
  iintro ⟨⟨⟨%K, HA⟩, Hrem⟩, HO, ⟨%d, Hq⟩, ⟨%d', Hout⟩⟩
  ihave Hout := (out_any c t _) $$ Hout
  ihave HO := ((owed_start m ρ c t).trans (Entails.of_eq (show ow (F := F) c (owedN c t.val) = ow c (owedR c 7) from by rw [ht]; rfl))) $$ HO
  ihave Hq := (Entails.of_eq (q_eq m c t _ hb)) $$ Hq
  iapply (wp_last m K (win0_0.stage (cfg0.slots t 0)) (win0_1.stage (cfg0.slots t 1)) c (grid0.coords t) (hi.trans ht) _)
  isplitl [HA]; · iexact HA
  isplitl [Hq]; · iexact Hq
  isplitl [Hout]; · iexact Hout
  isplitl [HO]; · iexact HO
  iintro ⟨HZ, Hq, Hout, HO⟩
  ihave HO := ((Entails.of_eq (show ow (F := F) c 0 = ow c (owedN c (t.val + 1)) from by
    rw [ht]; exact congrArg (ow c) (owedR_eight c 8 (Nat.le_refl _)).symm)).trans (owed_end m ρ c t)) $$ HO
  isplitl [HZ Hrem]; · isplitl [HZ] <;> iassumption
  isplitl [HO]; · iexact HO
  isplitl [Hq] <;> iassumption

/-- The library's body obligation on device `c`. -/
theorem body_obligation (c : Dev nD) : BodyObligation (dats (F := F) m ρ 0 c) (defs₀ (F := F)) 𝒱₀ () Set.univ := fun t => by
  rw [bigSep_W, bigSep_W]
  show bodyPre m ρ c t ⊢ WP c (bodyAt0 t) (fun _ => bodyPost m ρ c t)
  rcases Nat.eq_zero_or_pos t.val with h | h
  · exact at_first m ρ c t h
  · by_cases h' : t.val < 7
    · exact at_mid m ρ c t h h'
    · exact at_last m ρ c t (by have := pt_lt t; omega)

end Cert.KernelIdeal.Run

end
-- ==== Proof.Start.lean ====
/- The launch: the exchange's cells funded and dealt to the devices, what a device starts and ends with, and the run. -/
module

public import proofs.«01_k».proof.Proof.Oblig
public import Idealize.ShloMosaic.Lib.Pipeline.CollectiveSegs

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev OI : Type := (Fin 2 × Fin 4) ⊕ (Fin 4 × Fin 8)
abbrev osem : OI → SemLoc sig
  | .inl (j, g) => slotSem (if j = 0 then cc0_scratch2 else cc0_scratch3) g
  | .inr p => csem (some p)
theorem ownSemFacts : Pipeline.OwnSemFacts cfg0.spec osem := by decide +kernel

theorem bigSep_2 (Φ : Fin 2 → sProp 𝕄) : bigSep Finset.univ Φ = iprop(Φ 0 ∗ Φ 1) := bigSep_univ_eq_bigSepL [0, 1] (by decide) (by decide) Φ
theorem bigSep_1 (Φ : PUnit.{1} → sProp 𝕄) : bigSep Finset.univ Φ = Φ ⟨⟩ := bigSep_singleton

/-- A family over a device's cells: the barrier, and the four kinds. -/
theorem bigSep_CI (Φ : CI → sProp 𝕄) : bigSep Finset.univ Φ
    = iprop((((bigSep Finset.univ fun i : Fin 8 => Φ (osO i)) ∗ (bigSep Finset.univ fun i : Fin 8 => Φ (rsO i))
        ∗ (bigSep Finset.univ fun i : Fin 8 => Φ (osT i)) ∗ (bigSep Finset.univ fun i : Fin 8 => Φ (rsT i)))) ∗ Φ none) := by
  rw [bigSep_univ_equiv (Equiv.optionEquivSumPUnit.{0} (Fin 4 × Fin 8)).symm Φ, bigSep_univ_sum, bigSep_univ_prod, bigSep_4, bigSep_1]
  rfl

theorem ownSems0_eq (c : Dev nD) : (Pipeline.ownSems0 (Ix := Unit) (Name := ℕ) (U := UU) (Lvl := ℕ) (Val := Elt F) (τ := τ) osem c : sProp 𝕄)
    = iprop(slotSems c ∗ exSems c) := by
  unfold Pipeline.ownSems0 slotSems exSems
  rw [bigSep_univ_sum, bigSep_univ_prod, bigSep_univ_prod, bigSep_2,
    bigSep_4 (F := F) fun a : Fin 4 => bigSep Finset.univ fun b : Fin 8 => semVal ((c : Thread nD τ), osem (.inr (a, b))) 0]
  rfl
theorem unscopedSems0_eq (c : Dev nD) : (unscopedSems0 c : sProp 𝕄) = semVal (kcell c none) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell c k) 0) ∗ slotSems c) : sProp 𝕄) := by
  rw [ownSems0_eq, unscopedSems0_eq, bigSep_CI]
  unfold exSems
  iintro ⟨⟨HS, HE⟩, HB⟩
  isplitr [HS]
  · isplitl [HE] <;> iassumption
  iexact HS

/-! ## The launch element -/

theorem kcell_injective : Function.Injective (fun p : Dev nD × CI => kcell p.1 p.2) := by
  rintro ⟨c, k⟩ ⟨c', k'⟩ h
  have h1 : c = c' := congrArg (fun g : GSem nD τ sig => g.1.1) h
  have h2 : csem k = csem k' := congrArg Prod.snd h
  rw [h1, csem_injective h2]
def exCells : Finset (GSem nD τ sig) := Finset.univ.map ⟨_, kcell_injective⟩
theorem exTok_injective : Function.Injective (fun p : Dev nD × CI => ((kcell p.1 p.2, 0, ()) : GSem nD τ sig × ℕ × Unit)) :=
  fun a b h => kcell_injective (congrArg Prod.fst h)
def exToks : Finset (GSem nD τ sig × ℕ × Unit) := Finset.univ.map ⟨_, exTok_injective⟩

def u₀ : UU :=
  (initOf (Pipeline.cells cfgs cellOf_inj) (Pipeline.launchToks cfgs cellOf_inj), (initOf exCells exToks, 1))

theorem u₀_split : (ownU u₀ : sProp 𝕄)
    ⊢ iprop(BI.own (EP (initOf (Pipeline.cells cfgs cellOf_inj) (Pipeline.launchToks cfgs cellOf_inj))) ∗ BI.own (ER (initOf exCells exToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf exCells exToks, (1 : Counters)))))

/-- What the launch element deals a device. -/
def G (c : Dev nD) : sProp 𝕄 :=
  iprop((bigSep Finset.univ fun k : CI => roundState ER (exch m) (kcell c k) 0)
    ∗ (bigSep Finset.univ fun k : CI => atPos ER (kcell c k) 0 ∅ 0) ∗ (bigSep Finset.univ fun k : CI => reached ER (kcell c k) 0)
    ∗ bigSep Finset.univ fun k : CI => dutyTok ER (kcell c k) 0 ())

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell c k) := by
    unfold exCells; rw [bigSep_map, bigSep_univ_prod]; rfl
  have hT : bigSep exToks (fun x => (dutyTok ER x.1 x.2.1 x.2.2 : sProp 𝕄)) = bigSep Finset.univ fun c : Dev nD => bigSep Finset.univ fun k : CI => dutyTok ER (kcell c k) 0 () := by
    unfold exToks; rw [bigSep_map, bigSep_univ_prod]; rfl
  iintro HX
  imod (Rounds.fund ER (exch m) exCells exToks) $$ HX with ⟨Hst, Hr, Hat, Htok⟩
  imodintro
  ihave Hst' := (Entails.of_eq (hX fun g => roundState ER (exch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The global step -/

/-- The device whose cell `k` device `c` pays. -/
def payee (c : Dev nD) : CI → Dev nD
  | none => peer c
  | some (0, _) => c
  | some (1, _) => peer c
  | some (2, _) => c
  | some (3, _) => peer c
theorem payee_payee (p : Dev nD × CI) : payee (payee p.1 p.2) p.2 = p.1 := by
  obtain ⟨c, k⟩ := p
  rcases k with _ | ⟨j, i⟩
  · exact peer_peer c
  · fin_cases j
    exacts [rfl, peer_peer c, rfl, peer_peer c]
def payEquiv : Dev nD × CI ≃ Dev nD × CI :=
  ⟨fun p => (payee p.1 p.2, p.2), fun p => (payee p.1 p.2, p.2), fun p => Prod.ext (payee_payee p) rfl, fun p => Prod.ext (payee_payee p) rfl⟩

/-- A device's linear part: its positions, the duties it pays, its slots' semaphores. -/
def linear (c : Dev nD) : sProp 𝕄 :=
  iprop((bigSep Finset.univ fun k : CI => atPos ER (kcell c k) 0 ∅ 0) ∗ (bigSep Finset.univ fun k : CI => dutyTok ER (kcell (payee c k) k) 0 ()) ∗ slotSems c)
def G' (c : Dev nD) : sProp 𝕄 := iprop((∃ K, records m K) ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (exch m) κ (kcell c k)))
          ∗ (bigSep Finset.univ fun k : CI => atPos ER (kcell c k) 0 ∅ 0) ∗ (bigSep Finset.univ fun k : CI => reached ER (kcell c k) 0)
          ∗ (bigSep Finset.univ fun k : CI => dutyTok ER (kcell c k) 0 ()) ∗ slotSems c) := by
  unfold G
  iintro ⟨Hos, Hus, Hst, Hat, Hr, Htok⟩
  ihave Hv := (sems0_eq (F := F) c) $$ [Hos Hus]
  · isplitl [Hos] <;> iassumption
  icases Hv with ⟨Hv, Hsl⟩
  imod (show iprop((bigSep Finset.univ fun k : CI => semVal (kcell c k) 0) ∗ bigSep Finset.univ fun k : CI => roundState ER (exch m) (kcell c k) 0)
      ⊢ (|={Set.univ}=> bigSep Finset.univ fun k : CI => iprop(∃ κ : ℕ, cellInv ER (exch m) κ (kcell c k)) : sProp 𝕄) from by
        rw [← bigSep_sep']
        exact (bigSep_mono fun k _ => (Rounds.body_intro ER (exch m) (kcell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hsl

/-- The duty tokens dealt to the devices that pay them. -/
theorem toks_dealt : (bigSep Finset.univ fun c : Dev nD => bigSep Finset.univ fun k : CI => (dutyTok ER (kcell c k) 0 () : sProp 𝕄))
    = bigSep Finset.univ fun c : Dev nD => bigSep Finset.univ fun k : CI => dutyTok ER (kcell (payee c k) k) 0 () := by
  rw [← bigSep_univ_prod (fun p : Dev nD × CI => (dutyTok ER (kcell p.1 p.2) 0 () : sProp 𝕄)), bigSep_univ_equiv payEquiv,
    ← bigSep_univ_prod (fun p : Dev nD × CI => (dutyTok ER (kcell (payee p.1 p.2) p.2) 0 () : sProp 𝕄))]
  rfl

theorem deal_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

theorem regroup :
    (bigSep Finset.univ fun c : Dev nD => iprop((bigSep Finset.univ fun k : CI => iprop(∃ κ : ℕ, cellInv ER (exch m) κ (kcell c k)))
          ∗ (bigSep Finset.univ fun k : CI => atPos ER (kcell c k) 0 ∅ 0) ∗ (bigSep Finset.univ fun k : CI => reached ER (kcell c k) 0)
          ∗ (bigSep Finset.univ fun k : CI => dutyTok ER (kcell c k) 0 ()) ∗ slotSems c) : sProp 𝕄)
      ⊢ bigSep Finset.univ (G' m) := by
  rw [bigSep_sep', bigSep_sep', bigSep_sep', bigSep_sep', ← bigSep_univ_prod (fun p : Dev nD × CI => iprop(∃ κ : ℕ, cellInv ER (exch m) κ (kcell p.1 p.2))),
    ← bigSep_univ_prod (fun p : Dev nD × CI => (reached ER (kcell p.1 p.2) 0 : sProp 𝕄)), toks_dealt]
  iintro ⟨HI, Hat, HR, Htok, Hsl⟩
  ihave HK := (BI.bigSep_exists_pi Finset.univ (fun (p : Dev nD × CI) (κ : ℕ) => (cellInv ER (exch m) κ (kcell p.1 p.2) : sProp 𝕄))) $$ HI
  icases HK with ⟨%K, HI⟩
  ihave #Hrec := (show iprop((bigSep Finset.univ fun p : Dev nD × CI => cellInv ER (exch m) (K p) (kcell p.1 p.2)) ∗ bigSep Finset.univ fun p : Dev nD × CI => reached ER (kcell p.1 p.2) 0)
      ⊢ (records m K : sProp 𝕄) from Entails.of_eq (by unfold records; rw [bigSep_sep'])) $$ [HI HR]
  · isplitl [HI] <;> iassumption
  ihave Hlin := (show iprop((bigSep Finset.univ fun c : Dev nD => bigSep Finset.univ fun k : CI => atPos ER (kcell c k) 0 ∅ 0)
        ∗ (bigSep Finset.univ fun c : Dev nD => bigSep Finset.univ fun k : CI => dutyTok ER (kcell (payee c k) k) 0 ()) ∗ bigSep Finset.univ fun c : Dev nD => slotSems c)
      ⊢ (bigSep Finset.univ fun c : Dev nD => linear c : sProp 𝕄) from Entails.of_eq (by unfold linear; rw [bigSep_sep', bigSep_sep'])) $$ [Hat Htok Hsl]
  · isplitl [Hat]; · iexact Hat
    isplitl [Htok] <;> iassumption
  iapply ((deal_persistent (R := records m K)).trans (bigSep_mono fun c _ => show iprop(records m K ∗ linear c) ⊢ (G' m c : sProp 𝕄) from by
    unfold G'
    iintro ⟨H1, H2⟩
    isplitl [H1]; · iexists K; iexact H1
    iexact H2))
  isplitr; · iexact Hrec
  iexact Hlin

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit for what the partner owes. -/
def creds (c : Dev nD) : sProp 𝕄 :=
  iprop((bigSep Finset.univ fun i : Fin 8 => iprop(cred (tallyAt (kcell c (rsO i)) () NO) ∗ cred (tallyAt (kcell c (rsT i)) () NT)))
    ∗ cred (tallyAt (kcell c none) () 1))

theorem creds_of (c : Dev nD) : (Pipeline.launchCred O₀ c : sProp 𝕄) ⊢ creds c := by
  have hs : (∑ d, O₀ d) = ∑ d, O₀ (peer d) := (Equiv.sum_comp pairing O₀).symm
  rw [Pipeline.launchCred_of_sum O₀ (fun d => O₀ (peer d)) hs (fun d g hg => by
    by_contra hne
    refine hg (Finsupp.ext fun u => ?_)
    rcases Nat.eq_zero_or_pos (O₀ (peer d) g u) with h | h
    · exact h
    · exfalso
      rcases O₀_pos h with ⟨i, rfl | rfl⟩ | rfl
      all_goals exact hne (by rw [peer_peer])) c]
  unfold O₀ owedR creds
  rw [peer_peer, Finset.filter_true_of_mem (fun i _ => Nat.zero_le _)]
  refine (cred_add _ _).1.trans (sep_mono_left ?_)
  rw [Pipeline.cred_finsetSum]
  exact bigSep_mono fun i _ => (cred_add _ _).1

/-! ## A device's start and end -/

def start (c : Dev nD) : sProp 𝕄 :=
  iprop(G' m c ∗ creds c ∗ levAts L lv ∗ ((c : Thread nD τ).loc main_arg1 ↦{fullShare} Kc m c) ∗ ((c : Thread nD τ).loc main_arg2 ↦{fullShare} Vc m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨⟨HK, HV⟩, Hlev, Hcr, -, HG⟩
  ihave Hc := (creds_of (F := F) c) $$ Hcr
  imodintro
  isplitl
  · isplitl [HG]; · iexact HG
    isplitl [Hc]; · iexact Hc
    isplitl [Hlev]; · iexact Hlev
    isplitl [HK] <;> iassumption
  · iempintro

/-- The batches at the start: positions, credits, duties and the device's own buffers, batch by batch. -/
theorem base_intro (c : Dev nD) :
    iprop((bigSep Finset.univ fun k : CI => atPos ER (kcell c k) 0 ∅ 0) ∗ (bigSep Finset.univ fun k : CI => dutyTok ER (kcell (payee c k) k) 0 ())
        ∗ creds c ∗ bigSep Finset.univ fun i : Fin 8 => ownB c i)
      ⊢ (iprop((bigSep Finset.univ fun i : Fin 8 => iprop(base c i ∗ toks c i ∗ ownB c i)) ∗ bar0 c) : sProp 𝕄) := by
  rw [bigSep_CI, bigSep_CI]
  unfold base toks creds bar0
  simp only [bigSep_sep']
  iintro ⟨⟨⟨A0, A1, A2, A3⟩, A⟩, ⟨⟨T0, T1, T2, T3⟩, T⟩, ⟨⟨C1, C3⟩, C⟩, B⟩
  isplitr [A T C]
  · isplitl [A0 A1 A2 A3 C1 C3]
    · isplitl [A0]; · iexact A0
      isplitl [A1]; · iexact A1
      isplitl [A2]; · iexact A2
      isplitl [A3]; · iexact A3
      isplitl [C1] <;> iassumption
    isplitl [T0 T1 T2 T3]
    · isplitl [T0]; · iexact T0
      isplitl [T1]; · iexact T1
      isplitl [T2]; · iexact T2
      iexact T3
    iexact B
  isplitl [A]; · iexact A
  isplitl [C]; · iexact C
  iexact T

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop((∃ K, PhiA m K c) ∗ rem m c) from (show (dats m ρ 0 c).Φ 0 = PhiN m c 0 from rfl).trans (if_pos rfl), scopedRest0_eq]
  unfold start G' linear
  iintro ⟨⟨⟨⟨%K, HR⟩, Hat, Htk, Hsl⟩, Hcr, Hlev, HK, HV⟩, -, ⟨%f0, S0⟩, ⟨%f1, S1⟩, ⟨%f4, S4⟩, ⟨%f5, S5⟩, ⟨%f6, S6⟩, ⟨%f7, S7⟩⟩
  ihave Hown := (ownB_intro c f4 f5) $$ [S4 S5]
  · isplitl [S4] <;> iassumption
  ihave Hrx := (rxAny_intro c f6 f7) $$ [S6 S7]
  · isplitl [S6] <;> iassumption
  ihave Hfr := (free_intro m c f0 f1) $$ [S0 S1 Hsl HK HV]
  · isplitl [S0]; · iexact S0
    isplitl [S1]; · iexact S1
    isplitl [Hsl]; · iexact Hsl
    isplitl [HK] <;> iassumption
  icases Hfr with ⟨Hfr, Hrem⟩
  ihave Hfr := (Entails.of_eq (bigSep_4 (F := F) fun g => free2 m c g)) $$ Hfr
  ihave Hb := (base_intro (F := F) c) $$ [Hat Htk Hcr Hown]
  · isplitl [Hat]; · iexact Hat
    isplitl [Htk]; · iexact Htk
    isplitl [Hcr] <;> iassumption
  icases Hb with ⟨Hb, Hbar⟩
  unfold PhiA freeAll
  isplitr [Hrem]
  · iexists K
    isplitl [HR Hlev]
    · isplitl [HR] <;> iassumption
    isplitl [Hb]; · iexact Hb
    isplitl [Hrx]; · iexact Hrx
    isplitl [Hbar]; · iexact Hbar
    iexact Hfr
  iexact Hrem

/-- What a device ends with. -/
def Y (c : Dev nD) : sProp 𝕄 :=
  iprop(unscopedSems0 c ∗ ((c : Thread nD τ).loc main_arg1 ↦{fullShare} Kc m c) ∗ ((c : Thread nD τ).loc main_arg2 ↦{fullShare} Vc m c))

theorem wPts_whole (c : Dev nD) (b : Ref sig .tc) (hb : b.space = .vmem) (X : b.ty.Contents (Elt F)) :
    (owns (c : Thread nD τ) (Memref.whole b) fullShare X : sProp 𝕄) ⊢ iprop(∃ f : Buf (Elt F) ((c : Thread nD τ).loc b), ((c : Thread nD τ).loc b) ↦{fullShare} f) := by
  rw [owns_whole_eq]
  iintro ⟨%f, -, H⟩
  iexists f
  iexact H

theorem phi_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = PhiN m c 8 from congrArg (PhiN m c) N_0, show PhiN m c 8 = iprop(PhiZ m c ∗ rem m c) from rfl,
    scopedRest0_eq, ownSems0_eq]
  unfold PhiZ freeAll Y exBufs
  rw [unscopedSems0_eq]
  iintro ⟨⟨⟨H4, H6, H5, H7⟩, HE, Hfr, HB⟩, Hrem⟩
  ihave Hfr := (Entails.of_eq (bigSep_4 (F := F) fun g => free2 m c g).symm) $$ Hfr
  ihave Hx := (free_exit m c) $$ [Hfr Hrem]
  · isplitl [Hfr] <;> iassumption
  icases Hx with ⟨S0, S1, Hsl, HK, HV⟩
  ihave H4 := ((Entails.of_eq (wPts.eq_1 oL c (OL m c))).trans (wPts_whole c cc0_scratch4 rfl (OL m c))) $$ H4
  ihave H5 := ((Entails.of_eq (wPts.eq_1 tL c (TL m c))).trans (wPts_whole c cc0_scratch5 rfl (TL m c))) $$ H5
  ihave H6 := ((Entails.of_eq (wPts.eq_1 oR c (OL m (peer c)))).trans (wPts_whole c cc0_scratch6 rfl (OL m (peer c)))) $$ H6
  ihave H7 := ((Entails.of_eq (wPts.eq_1 tR c (TL m (peer c)))).trans (wPts_whole c cc0_scratch7 rfl (TL m (peer c)))) $$ H7
  isplitl [HB HK HV]
  · isplitl [HB]; · iexact HB
    isplitl [HK] <;> iassumption
  isplitl [Hsl HE]
  · isplitl [Hsl] <;> iassumption
  isplitl [S0]; · iexact S0
  isplitl [S1]; · iexact S1
  isplitl [H4]; · iexact H4
  isplitl [H5]; · iexact H5
  isplitl [H6] <;> iassumption

theorem mayWait_owedN (c : Dev nD) (q : SemLoc sig) (n : ℕ) (hq : lv ((c : Thread nD τ), q) () = 0) :
    (levAts L lv : sProp 𝕄) ⊢ MayWait (c : Thread nD τ) q () (owedN c n) := by
  unfold owedN
  split
  · exact mayWait_O₀ c q hq
  · exact mayWait_owedR c q n (by omega)

theorem stage_lv (c : Dev nD) (w : Fin cfg0.W) (s) : lv ((c : Thread nD τ), .dma ((cfg0.win w).sem s)) () = 0 := by
  have h : ∀ (w : Fin cfg0.W) (s), ∀ k : CI, SemLoc.dma ((cfg0.win w).sem s) ≠ csem k := by decide +kernel
  exact lv_other c _ (fun i => h w s _) (fun i => h w s _) (h w s _)

theorem waits (c : Dev nD) : (levAts L lv : sProp 𝕄) ⊢ Pipeline.cellsWaits cfgs (dats m ρ) () 0 c :=
  Pipeline.cellsWaits_intro cfgs (dats m ρ) () 0 c fun w s t => mayWait_owedN c _ t.val (stage_lv c w s)

theorem share_eq (c : Dev nD) (w : Fin cfg0.W) : (dats m ρ 0 c).share w = fullShare := by unfold Dat.share; split <;> rfl

/-! ## The run -/

/-- What a device's memory holds at the end: the windowed arrays at the pipeline's contents, keys and values unchanged. -/
def Final (s : MemSt nD τ sig (Elt F)) (c : Dev nD) : Prop :=
  (∀ w : Fin cfg0.W, s.mem ((cfg0.win w).arr.view.loc (c : Thread nD τ)) = (dats m ρ 0 c).arrAt w cfg0.N)
    ∧ s.mem ((c : Thread nD τ).loc main_arg1) = m ((c : Thread nD τ).loc main_arg1)
    ∧ s.mem ((c : Thread nD τ).loc main_arg2) = m ((c : Thread nD τ).loc main_arg2)

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  iexact HSI

theorem read_end (c : Dev nD) (s' : Phys nD τ sig (Elt F)) :
    iprop(Y m c ∗ emp ∗ SI s') ⊢ |={Set.univ}=> (iprop(⌜(∀ sm : SemLoc sig, sm.isScoped .tc = false → s'.mem.sem ((c.tc : Thread nD τ), sm) = 0)
      ∧ s'.mem.mem ((c : Thread nD τ).loc main_arg1) = m ((c : Thread nD τ).loc main_arg1)
      ∧ s'.mem.mem ((c : Thread nD τ).loc main_arg2) = m ((c : Thread nD τ).loc main_arg2)⌝ ∗ SI s') : sProp 𝕄) := by
  unfold Y
  iintro ⟨⟨Hu, HK, HV⟩, -, HSI⟩
  ihave H := (read_one _ _ s') $$ [HK HSI]
  · isplitl [HK] <;> iassumption
  icases H with ⟨%hK, HSI⟩
  ihave H := (read_one _ _ s') $$ [HV HSI]
  · isplitl [HV] <;> iassumption
  icases H with ⟨%hV, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hK, hV⟩
  iexact HSI

/-- The run, for any float values, from any memory with zero counters: it terminates, each device's result array ends at the computed
    contents, the arguments are unchanged and every semaphore counter is zero. -/
theorem run_main : θ_run defs (onTc (τ := τ) (main (F := F))) (s₀ m ρ) (fun r => (∀ c, Final m ρ r.2 c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun c => (show (dats m ρ 0 c).owed 0 = owedN c 0 from rfl).trans (if_pos rfl)) (howedN := fun c => owedR_eight c _ (Nat.le_of_eq N_0.symm))
    (L := L) (lv := lv) (hL := L_of_ne) (hwaits := waits m ρ)
    (G := G m) (G' := G' m) (u₀ := u₀)
    (hu₀ := by
      iintro Hu
      ihave H := u₀_split $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m ρ) (hout := phi_exit m ρ)
    (QY := fun c s => (∀ sm : SemLoc sig, sm.isScoped .tc = false → s.sem ((c.tc : Thread nD τ), sm) = 0)
      ∧ s.mem ((c : Thread nD τ).loc main_arg1) = m ((c : Thread nD τ).loc main_arg1)
      ∧ s.mem ((c : Thread nD τ).loc main_arg2) = m ((c : Thread nD τ).loc main_arg2))
    (hY := read_end m)
    (hQ := fun _ h hs => ⟨fun c => ⟨(h c).1, (h c).2.2.2⟩, sem_eq_zero hs fun c => (h c).2.2.1⟩)

/-- The queries' array after the run holds what it held. -/
theorem final_q (c : Dev nD) : (dats (F := F) m ρ 0 c).arrAt 0 cfg0.N = (s₀ m ρ).mem ((cfg0.win 0).arr.view.loc (c : Thread nD τ)) :=
  (dats (F := F) m ρ 0 c).arrAt_in (0 : Fin 2) rfl _

end Cert.KernelIdeal.Run

end
-- ==== Proof.Heads.lean ====
/- What one head of one batch computes over the extended reals, read element by element. -/
module

public import proofs.«01_k».proof.Proof.Sends
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe
open Idealize.ShloMosaic.Pointwise

section Head

variable (q : Vec Ideal S1x8x1x128 .f32) (k v : Vec Ideal S1x1024x128 .f32)

/-- A head's scores. -/
abbrev headS : FVec Ideal S8x1024 .f32 := k0_pay43 q k
/-- A head's exponentials. -/
abbrev headE : FVec Ideal S8x1024 .f32 := k0_pay45 q k

/-- A score is a scaled product of a query and a key. -/
theorem headS_apply (r : Fin 8) (l : Fin 1024) :
    headS q k (ix2 r l) = (∑ x : Fin 128, q (ix4 0 r 0 x) * k (ix3 0 l x)) * Ideal.ofBits .f32 0x3DB504F3#32 := by
  pointwise [k0_pay43]
/-- A row's maximum. -/
theorem headM_apply (r : Fin 8) (z : Fin 1) :
    headM q k (ix2 r z) = Finset.univ.fold max (Ideal.ofBits .f32 0xFF800000#32) fun l : Fin 1024 => headS q k (ix2 r l) := by
  pointwise [k0_pay44]
/-- An exponential. -/
theorem headE_apply (r : Fin 8) (l : Fin 1024) :
    headE q k (ix2 r l) = Ideal.exp (headS q k (ix2 r l) - headM q k (ix2 r 0)) := by
  pointwise [k0_pay45]
/-- A row's sum. -/
theorem headL_apply (r : Fin 8) (z : Fin 1) : headL q k (ix2 r z) = ∑ l : Fin 1024, headE q k (ix2 r l) := by
  pointwise [k0_pay46]
/-- An unnormalised output. -/
theorem headO_apply (r : Fin 8) (d : Fin 128) :
    headO q k v (ix4 0 0 r d) = ∑ l : Fin 1024, headE q k (ix2 r l) * v (ix3 0 l d) := by
  pointwise [k0_pay47]

end Head

section Comb

variable (m0 l0 m1 l1 : Vec Ideal S8x8x16 .f32)

/-- The weight of the device's own half. -/
theorem w0_apply (b r : Fin 8) (h : Fin 16) :
    k0_pay7 m0 l0 m1 l1 (ix3 b r h) =
      Ideal.div (Ideal.exp (m0 (ix3 b r h) - max (m0 (ix3 b r h)) (m1 (ix3 b r h))))
        (Ideal.exp (m0 (ix3 b r h) - max (m0 (ix3 b r h)) (m1 (ix3 b r h))) * l0 (ix3 b r h)
          + Ideal.exp (m1 (ix3 b r h) - max (m0 (ix3 b r h)) (m1 (ix3 b r h))) * l1 (ix3 b r h)) := by
  pointwise [k0_pay7, k0_pay6, k0_pay5, k0_pay4, k0_pay3]
/-- The weight of the peer's half. -/
theorem w1_apply (b r : Fin 8) (h : Fin 16) :
    k0_pay8 m0 l0 m1 l1 (ix3 b r h) =
      Ideal.div (Ideal.exp (m1 (ix3 b r h) - max (m0 (ix3 b r h)) (m1 (ix3 b r h))))
        (Ideal.exp (m0 (ix3 b r h) - max (m0 (ix3 b r h)) (m1 (ix3 b r h))) * l0 (ix3 b r h)
          + Ideal.exp (m1 (ix3 b r h) - max (m0 (ix3 b r h)) (m1 (ix3 b r h))) * l1 (ix3 b r h)) := by
  pointwise [k0_pay8, k0_pay6, k0_pay5, k0_pay4, k0_pay3]

/-- A combined output. -/
theorem combO_apply (h : Fin 16) (w0 w1 : FVec Ideal S8x8x16 .f32) (a b : Vec Ideal S8x1x8x128 .bf16) (x r : Fin 8) (d : Fin 128) :
    combO ![0, 0, h.val] (slicesH h) w0 w1 a b (ix4 x r 0 d)
      = a (ix4 x 0 r d) * w0 (ix3 x r h) + b (ix4 x 0 r d) * w1 (ix3 x r h) := by
  pointwise [combO]

end Comb

/-- The pieces side by side: the maxima, then the sums. -/
def pieces (m l : Fin 16 → FVec Ideal S8x1 .f32) (n : Fin 32) : FVec Ideal S8x1 .f32 :=
  if h : n.val < 16 then m ⟨n.val, h⟩ else l ⟨n.val - 16, by omega⟩

/-- The statistics at a column. -/
theorem statO_apply (m l : Fin 16 → FVec Ideal S8x1 .f32) (r : Fin 8) (n : Fin 32) :
    statO m l (ix3 0 r n) = pieces m l n (ix2 r 0) := by
  have e : statO m l = shapeCast S1x8x32 (concatenate S8x32 1 (List.ofFn fun n : Fin 32 => (⟨S8x1, pieces m l n⟩ : (s : Shape) × (s.Idx → Ideal .f32)))
      concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x32_d1) shapeCasts_S8x32_S1x8x32 := rfl
  rw [e]
  pointwise
/-- The maxima's columns. -/
theorem statO_max (m l : Fin 16 → FVec Ideal S8x1 .f32) (r : Fin 8) (h : Fin 16) (n : Fin 32) (e : n.val = h.val) :
    statO m l (ix3 0 r n) = m h (ix2 r 0) := by
  have h1 : n.val < 16 := by omega
  rw [statO_apply, pieces, dif_pos h1]
  exact congrArg (fun i => m i (ix2 r 0)) (Fin.ext e)
/-- The sums' columns. -/
theorem statO_sum (m l : Fin 16 → FVec Ideal S8x1 .f32) (r : Fin 8) (h : Fin 16) (n : Fin 32) (e : n.val = 16 + h.val) :
    statO m l (ix3 0 r n) = l h (ix2 r 0) := by
  have h1 : ¬ n.val < 16 := by omega
  rw [statO_apply, pieces, dif_neg h1]
  exact congrArg (fun i => l i (ix2 r 0)) (Fin.ext (by show n.val - 16 = h.val; omega))

end Cert.KernelIdeal.Run

end
-- ==== Proof.Result.lean ====
/- The result array at the end of the run: written back once, whole. -/
module

public import proofs.«01_k».proof.Proof.Oblig
public import Idealize.ShloMosaic.Lib.Pipeline.Value
public import Idealize.ShloMosaic.Lib.Pointwise.Reshape

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-- The windows' blocks: batch `t` of the queries, and the whole result. -/
theorem ix_q : ∀ (t : Fin grid0.N) (a : Fin 4), win0_0.index t a = if a = 0 then t.val else 0 := by decide +kernel
theorem ix_out : ∀ (t : Fin grid0.N) (a : Fin 4), win0_1.index t a = 0 := by decide +kernel

/-- The last point's block is the whole array. -/
theorem emb_out (t : Fin cfg0.N) (y : S8x8x16x128.Idx) : ((cfg0.win 1).blk t).view.emb y = y := by
  refine funext fun a => Fin.ext ?_
  have e : (((cfg0.win 1).blk t).view.emb y a).val = (cfg0.win 1).index t a * S8x8x16x128.size a + 1 * (y a).val := rfl
  rw [e]
  rw [show (cfg0.win 1).index t a = 0 from ix_out t a, Nat.zero_mul, Nat.zero_add, Nat.one_mul]

/-- The result array at the end is the result. -/
theorem arrAt_out (c : Dev nD) : (dats m ρ 0 c).arrAt 1 cfg0.N = OUT m c := by
  have h := (dats m ρ 0 c).arrAt_succ 1 ⟨7, by decide⟩
  rw [if_pos ((flush0_1 _).mpr rfl)] at h
  refine (show (dats m ρ 0 c).arrAt 1 cfg0.N = (dats m ρ 0 c).arrAt 1 8 from rfl).trans (h.trans ?_)
  refine funext fun (x : S8x8x16x128.Idx) => ?_
  have w := View.write_emb_of_mem (v := ((cfg0.win 1).blk ⟨7, by decide⟩).view) ((dats m ρ 0 c).arrAt 1 7) ((dats m ρ 0 c).flushed 1 ⟨7, by decide⟩) (Finset.mem_univ x)
  rw [emb_out] at w
  exact w

/-- A query in its batch's block. -/
theorem qB_apply (c : Dev nD) (b : Fin 8) (y : S1x8x16x128.Idx) :
    qB m c b y = m ((c : Thread nD τ).loc main_arg0) (ix4 b (y 1) (y 2) (y 3)) := by
  refine congrArg (m ((c : Thread nD τ).loc main_arg0)) ?_
  show ((cfg0.win 0).blk (Fin.cast N_0.symm b)).view.emb y = _
  refine funext fun a => Fin.ext ?_
  have e : (((cfg0.win 0).blk (Fin.cast N_0.symm b)).view.emb y a).val = (cfg0.win 0).index (Fin.cast N_0.symm b) a * S1x8x16x128.size a + 1 * (y a).val := rfl
  rw [e, show (cfg0.win 0).index (Fin.cast N_0.symm b) a = if a = (0 : Fin 4) then (Fin.cast N_0.symm b).val else 0 from ix_q _ a]
  have y0 : (y 0).val = 0 := by have : (y 0).val < 1 := (y 0).isLt; omega
  match a with
  | ⟨0, _⟩ => show b.val * 1 + 1 * (y 0).val = b.val; omega
  | ⟨1, _⟩ => show 0 * 8 + 1 * (y 1).val = (y 1).val; omega
  | ⟨2, _⟩ => show 0 * 16 + 1 * (y 2).val = (y 2).val; omega
  | ⟨3, _⟩ => show 0 * 128 + 1 * (y 3).val = (y 3).val; omega

/-- A query of one head. -/
theorem qRd_apply (c : Dev nD) (b : Fin 8) (h : Fin 16) (r : Fin 8) (d : Fin 128) :
    qRd m c b h (ix4 0 r 0 d) = m ((c : Thread nD τ).loc main_arg0) (ix4 b r h d) :=
  qB_apply m c b (ix4 0 r h d)

/-- A chunk's index with its unit axes. -/
theorem unsq_ix (hn : S1024x512.numel = S1x1024x1x512.numel) (l : Fin 1024) (e : Fin 512) :
    Shape.reshapeEquiv hn (ix2 l e) = (ix4 0 l 0 e : S1x1024x1x512.Idx) := by
  refine Shape.reshapeEquiv_eq_of_vals hn _ _ _ _ (rowMajor_val4 _ _ _ _ rfl rfl rfl) (rowMajor_val2 _ _ rfl) ?_
  show 0 * (1024 * (1 * 512)) + l.val * (1 * 512) + 0 * 512 + e.val = l.val * 512 + e.val
  omega
/-- A group's column is a head's. -/
theorem split_ix (hn : S8x1024x4x512.numel = S8x1024x16x128.numel) (b : Fin 8) (l : Fin 1024) (g : Fin 4) (e : Fin 512)
    (h : Fin 16) (d : Fin 128) (he : 128 * h.val + d.val = 512 * g.val + e.val) :
    Shape.reshapeEquiv hn (ix4 b l g e) = (ix4 b l h d : S8x1024x16x128.Idx) := by
  refine Shape.reshapeEquiv_eq_of_vals hn _ _ _ _ (rowMajor_val4 _ _ _ _ rfl rfl rfl) (rowMajor_val4 _ _ _ _ rfl rfl rfl) ?_
  show b.val * (1024 * (16 * 128)) + l.val * (16 * 128) + h.val * 128 + d.val
    = b.val * (1024 * (4 * 512)) + l.val * (4 * 512) + g.val * 512 + e.val
  omega
/-- A chunk's index among all chunks. -/
theorem chunk_ix (b : Fin 8) (g : Fin 4) (l : Fin 1024) (e : Fin 512) :
    (Rect.unit (s := S8x1024x4x512) ![b.val, 0, g.val, 0] S1x1024x1x512.size (inbChunk b g)).emb (ix4 0 l 0 e : S1x1024x1x512.Idx)
      = (ix4 b l g e : S8x1024x4x512.Idx) := by
  refine funext fun a => Fin.ext ?_
  match a with
  | ⟨0, _⟩ => show b.val + 1 * 0 = b.val; omega
  | ⟨1, _⟩ => show 0 + 1 * l.val = l.val; omega
  | ⟨2, _⟩ => show g.val + 1 * 0 = g.val; omega
  | ⟨3, _⟩ => show 0 + 1 * e.val = e.val; omega

/-- A key or value in its chunk. -/
theorem chunk_emb (s : Memref sig .tc .hbm S8x1024x16x128 .f32) (hs : s.IsWhole) (b : Fin 8) (g : Fin 4) (l : Fin 1024) (e : Fin 512)
    (h : Fin 16) (d : Fin 128) (he : 128 * h.val + d.val = 512 * g.val + e.val) :
    (chunkAt s hs b g).view.emb (ix2 l e) = s.view.emb (ix4 b l h d) := by
  refine (show (chunkAt s hs b g).view.emb (ix2 l e) = s.view.emb (Shape.reshapeEquiv (s := S8x1024x16x128) (s' := S8x1024x4x512) reshapes_S8x1024x16x128_S8x1024x4x512.1
    ((Rect.unit (s := S8x1024x4x512) ![b.val, 0, g.val, 0] S1x1024x1x512.size (inbChunk b g)).emb
      (Shape.reshapeEquiv (s := S1x1024x1x512) (s' := S1024x512) squeezes_S1x1024x1x512_S1024x512.numel_eq (ix2 l e)))) from rfl).trans ?_
  rw [unsq_ix, chunk_ix, split_ix _ b l g e h d he]

/-- A key of one head. -/
theorem kRd_apply (c : Dev nD) (b : Fin 8) (h : Fin 16) (l : Fin 1024) (d : Fin 128) :
    kRd m c b h (ix3 0 l d) = m ((c : Thread nD τ).loc main_arg1) (ix4 b l h d) :=
  congrArg (m ((c : Thread nD τ).loc main_arg1)) (chunk_emb argK (Memref.isWhole_whole _) b (hG h) l _ h d (by
    show 128 * h.val + d.val = 512 * (h.val / 4) + (128 * (h.val % 4) + d.val); omega))
/-- A value of one head. -/
theorem vRd_apply (c : Dev nD) (b : Fin 8) (h : Fin 16) (l : Fin 1024) (d : Fin 128) :
    vRd m c b h (ix3 0 l d) = m ((c : Thread nD τ).loc main_arg2) (ix4 b l h d) :=
  congrArg (m ((c : Thread nD τ).loc main_arg2)) (chunk_emb argV (Memref.isWhole_whole _) b (hG h) l _ h d (by
    show 128 * h.val + d.val = 512 * (h.val / 4) + (128 * (h.val % 4) + d.val); omega))

end Cert.KernelIdeal.Run

end
-- ==== Proof.Soft.lean ====
/- The arithmetic over the extended reals: a softmax taken in two halves, each below its own maximum and then weighed
   against the other, is the softmax of the whole. The scores are real; the values are any extended reals. -/
module

public import Idealize.ShloMosaic.PureOps.Ideal.Laws

@[expose] public section

noncomputable section

namespace Cert.Soft

open Idealize.ShloMosaic

/-! ## Constants -/

/-- The word of minus infinity. -/
theorem ofBits_bot : Ideal.ofBits .f32 0xFF800000#32 = ⊥ := by simp [Ideal.ofBits, Ideal.ieee]
/-- The word of plus infinity. -/
theorem ofBits_top : Ideal.ofBits .f32 0x7F800000#32 = ⊤ := by simp [Ideal.ofBits, Ideal.ieee]
/-- The scale is some real number. -/
theorem ofBits_scale : ∃ r : ℝ, Ideal.ofBits .f32 0x3DB504F3#32 = (r : EReal) := by
  unfold Ideal.ofBits Ideal.ieee
  dsimp only
  rw [if_neg (by decide), if_neg (by decide)]
  exact ⟨_, rfl⟩

/-! ## Sums -/

section Sums

variable {ι κ : Type} [Fintype ι] [Fintype κ]

/-- A sum of reals. -/
theorem sum_coe (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of any extended reals. -/
theorem sum_mul_coe (s : Finset ι) (f : ι → EReal) (w : ℝ) (hw : 0 ≤ w) : (∑ i ∈ s, f i) * (w : EReal) = ∑ i ∈ s, f i * (w : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hw) (EReal.coe_ne_top w) _ _

/-- The maximum of finitely many reals, folded from minus infinity, is a real. -/
theorem fold_max_real (f : ι → EReal) (h : ∀ i, ∃ r : ℝ, f i = (r : EReal)) [Nonempty ι] :
    ∃ r : ℝ, Finset.univ.fold max ⊥ f = (r : EReal) := by
  classical
  have key : ∀ s : Finset ι, s.fold max ⊥ f = ⊥ ∧ s = ∅ ∨ ∃ r : ℝ, s.fold max ⊥ f = (r : EReal) := by
    intro s
    induction s using Finset.induction_on with
    | empty => exact .inl ⟨by simp, rfl⟩
    | insert a s ha ih =>
      right
      obtain ⟨x, hx⟩ := h a
      rw [Finset.fold_insert ha, hx]
      rcases ih with ⟨e, -⟩ | ⟨r, e⟩
      · exact ⟨x, by rw [e]; exact max_eq_left bot_le⟩
      · exact ⟨max x r, by rw [e]; exact (EReal.coe_strictMono.monotone.map_max).symm⟩
  rcases key Finset.univ with ⟨-, e⟩ | e
  · exact absurd e (Finset.univ_nonempty.ne_empty)
  · exact e

/-! ## The two softmaxes -/

/-- The sum of the exponentials. -/
def tot (s : ι → ℝ) : ℝ := ∑ i, Real.exp (s i)

theorem tot_pos (s : ι → ℝ) [Nonempty ι] : 0 < tot s := Finset.sum_pos (fun _ _ => Real.exp_pos _) Finset.univ_nonempty

/-- An exponential below a real. -/
theorem exp_sub (x M : ℝ) : Ideal.exp ((x : EReal) - (M : EReal)) = ((Real.exp x * Real.exp (-M) : ℝ) : EReal) := by
  rw [← EReal.coe_sub, Ideal.exp_coe, ← Real.exp_add, sub_eq_add_neg]

/-- The sum of the exponentials below a real. -/
theorem sum_exp_sub (s : ι → ℝ) (M : ℝ) : (∑ i, Ideal.exp ((s i : EReal) - (M : EReal))) = ((tot s * Real.exp (-M) : ℝ) : EReal) := by
  rw [show (∑ i, Ideal.exp ((s i : EReal) - (M : EReal))) = ∑ i, ((Real.exp (s i) * Real.exp (-M) : ℝ) : EReal) from
    Finset.sum_congr rfl fun i _ => exp_sub _ _, sum_coe, tot, Finset.sum_mul]

/-- A quotient of reals. -/
theorem div_real (x y : ℝ) (h : y ≠ 0) : Ideal.div (x : EReal) (y : EReal) = ((x / y : ℝ) : EReal) := by
  rw [Ideal.div_coe h, ← EReal.coe_mul, mul_one_div]

/-- The plain softmax does not depend on what is subtracted. -/
theorem plain (s : ι → ℝ) (v : ι → EReal) (M : ℝ) [Nonempty ι] :
    (∑ i, v i * Ideal.div (Ideal.exp ((s i : EReal) - (M : EReal))) (∑ j, Ideal.exp ((s j : EReal) - (M : EReal))))
      = ∑ i, v i * ((Real.exp (s i) / tot s : ℝ) : EReal) := by
  refine Finset.sum_congr rfl fun i _ => congrArg (v i * ·) ?_
  have hM := (Real.exp_pos (-M)).ne'
  have ht := (tot_pos s).ne'
  rw [sum_exp_sub, exp_sub, div_real _ _ (mul_ne_zero ht hM), mul_div_mul_right _ _ hM]

/-- One half's output times its weight. -/
theorem half (s : ι → ℝ) (v : ι → EReal) (M X D T : ℝ) (hD : 0 < D) (hT : D = Real.exp (-X) * T) :
    (∑ i, Ideal.exp ((s i : EReal) - (M : EReal)) * v i) * Ideal.div (Ideal.exp ((M : EReal) - (X : EReal))) (D : EReal)
      = ∑ i, v i * ((Real.exp (s i) / T : ℝ) : EReal) := by
  have hX := (Real.exp_pos (-X)).ne'
  have hM := (Real.exp_pos M).ne'
  have hT0 : T ≠ 0 := fun e => hD.ne' (by rw [hT, e, mul_zero])
  rw [exp_sub, div_real _ _ hD.ne', sum_mul_coe _ _ _ (div_nonneg (mul_nonneg (Real.exp_pos _).le (Real.exp_pos _).le) hD.le)]
  refine Finset.sum_congr rfl fun i _ => ?_
  rw [exp_sub, mul_comm (_ : EReal) (v i), mul_assoc, ← EReal.coe_mul]
  refine congrArg (fun r : ℝ => v i * (r : EReal)) ?_
  rw [hT, Real.exp_neg M]
  field_simp

/-- The two halves, each below its own real and weighed against the other below a third, are the softmax of both. -/
theorem comb (s : ι → ℝ) (t : κ → ℝ) (v : ι → EReal) (u : κ → EReal) (M N : ℝ) [Nonempty ι] [Nonempty κ] :
    (∑ i, Ideal.exp ((s i : EReal) - (M : EReal)) * v i)
        * Ideal.div (Ideal.exp ((M : EReal) - max (M : EReal) (N : EReal)))
            (Ideal.exp ((M : EReal) - max (M : EReal) (N : EReal)) * (∑ i, Ideal.exp ((s i : EReal) - (M : EReal)))
              + Ideal.exp ((N : EReal) - max (M : EReal) (N : EReal)) * (∑ i, Ideal.exp ((t i : EReal) - (N : EReal))))
      + (∑ i, Ideal.exp ((t i : EReal) - (N : EReal)) * u i)
        * Ideal.div (Ideal.exp ((N : EReal) - max (M : EReal) (N : EReal)))
            (Ideal.exp ((M : EReal) - max (M : EReal) (N : EReal)) * (∑ i, Ideal.exp ((s i : EReal) - (M : EReal)))
              + Ideal.exp ((N : EReal) - max (M : EReal) (N : EReal)) * (∑ i, Ideal.exp ((t i : EReal) - (N : EReal))))
      = (∑ i, v i * ((Real.exp (s i) / (tot s + tot t) : ℝ) : EReal)) + ∑ i, u i * ((Real.exp (t i) / (tot s + tot t) : ℝ) : EReal) := by
  have hm : max (M : EReal) (N : EReal) = ((max M N : ℝ) : EReal) := (EReal.coe_strictMono.monotone.map_max).symm
  rw [hm]
  generalize max M N = X
  have hden : Ideal.exp ((M : EReal) - (X : EReal)) * (∑ i, Ideal.exp ((s i : EReal) - (M : EReal)))
      + Ideal.exp ((N : EReal) - (X : EReal)) * (∑ i, Ideal.exp ((t i : EReal) - (N : EReal)))
      = ((Real.exp (-X) * (tot s + tot t) : ℝ) : EReal) := by
    rw [sum_exp_sub, sum_exp_sub, exp_sub, exp_sub, ← EReal.coe_mul, ← EReal.coe_mul, ← EReal.coe_add]
    refine congrArg _ ?_
    have hM := (Real.exp_pos M).ne'
    have hN := (Real.exp_pos N).ne'
    rw [Real.exp_neg M, Real.exp_neg N]
    field_simp
  rw [hden]
  have hD : 0 < Real.exp (-X) * (tot s + tot t) := mul_pos (Real.exp_pos _) (add_pos (tot_pos s) (tot_pos t))
  rw [half s v M X _ _ hD rfl, half t u N X _ _ hD rfl]

end Sums

end Cert.Soft

end
-- ==== Proof.Halves.lean ====
/- The result on a device, element by element: the two halves' partial outputs, each times its weight. -/
module

public import proofs.«01_k».proof.Proof.Heads
public import proofs.«01_k».proof.Proof.Result
public import proofs.«01_k».proof.Proof.Soft

@[expose] public section

set_option maxRecDepth 16384

noncomputable section

namespace Cert.KernelIdeal.Run

open Cert.KernelIdeal Cert.KernelIdeal.Gen
open Idealize.ShloMosaic Idealize.ShloMosaic.TcCoe
open Idealize.ShloMosaic.Pointwise

variable (m : (ℓ : Loc nD τ sig) → Buf (Elt Ideal) ℓ)

/-- A partial output. -/
theorem OL_apply (c : Dev nD) (b : Fin 8) (h : Fin 16) (r : Fin 8) (d : Fin 128) :
    OL m c (ix4 b h r d) = hO m c b h (ix4 0 0 r d) :=
  congrArg (hO m c b h) (ix4_eq_valueIdx 0 0 r d).symm
/-- The statistics' maxima. -/
theorem TLm_apply (c : Dev nD) (b r : Fin 8) (h : Fin 16) : tM (TL m c) (ix3 b r h) = hM m c b h (ix2 r 0) :=
  (congrArg (tB m c b) (ix3_eq_valueIdx 0 r _).symm).trans (statO_max _ _ r h _ rfl)
/-- The statistics' sums. -/
theorem TLs_apply (c : Dev nD) (b r : Fin 8) (h : Fin 16) : tS (TL m c) (ix3 b r h) = hL m c b h (ix2 r 0) :=
  (congrArg (tB m c b) (ix3_eq_valueIdx 0 r _).symm).trans (statO_sum _ _ r h _ rfl)

/-- The result from the two halves. -/
theorem OUT_apply (c : Dev nD) (b r : Fin 8) (h : Fin 16) (d : Fin 128) :
    OUT m c (ix4 b r h d) = OL m c (ix4 b h r d) * W0 m c (ix3 b r h) + OL m (peer c) (ix4 b h r d) * W1 m c (ix3 b r h) := by
  refine (congrArg (outH h (W0 m c) (W1 m c) (OL m c) (OL m (peer c))) (ix4_eq_valueIdx b r 0 d).symm).trans ?_
  refine (combO_apply h _ _ _ _ b r d).trans ?_
  have e : ∀ X : Vec Ideal S8x16x8x128 .bf16, oRd X h (ix4 b 0 r d) = X (ix4 b h r d) := fun X =>
    congrArg X (ix4_eq_valueIdx b h r d).symm
  rw [e, e]

/-- What a row's half works on: real scores and any values. -/
structure Row (q : Vec Ideal S1x8x1x128 .f32) (k : Vec Ideal S1x1024x128 .f32) (r : Fin 8) (s : Fin 1024 → ℝ) : Prop where
  eq : ∀ l, headS q k (ix2 r l) = (s l : EReal)

/-- A half's maximum is a real, and its sums are those of the exponentials below it. -/
theorem row_half {q : Vec Ideal S1x8x1x128 .f32} {k : Vec Ideal S1x1024x128 .f32} {r : Fin 8} {s : Fin 1024 → ℝ} (H : Row q k r s) :
    ∃ M : ℝ, headM q k (ix2 r 0) = (M : EReal)
      ∧ headL q k (ix2 r 0) = (∑ l, Ideal.exp ((s l : EReal) - (M : EReal)))
      ∧ ∀ (v : Vec Ideal S1x1024x128 .f32) (d : Fin 128),
          headO q k v (ix4 0 0 r d) = ∑ l, Ideal.exp ((s l : EReal) - (M : EReal)) * v (ix3 0 l d) := by
  obtain ⟨M, hM⟩ := Cert.Soft.fold_max_real (fun l : Fin 1024 => headS q k (ix2 r l)) (fun l => ⟨s l, H.eq l⟩)
  have eM : headM q k (ix2 r 0) = (M : EReal) := by rw [headM_apply, Cert.Soft.ofBits_bot, hM]
  have eP : ∀ l, headE q k (ix2 r l) = Ideal.exp ((s l : EReal) - (M : EReal)) := fun l => by rw [headE_apply, H.eq, eM]
  refine ⟨M, eM, ?_, fun v d => ?_⟩
  · rw [headL_apply]; exact Finset.sum_congr rfl fun l _ => eP l
  · rw [headO_apply]; exact Finset.sum_congr rfl fun l _ => by rw [eP l]

/-- The result at an element is the softmax over both halves' keys. -/
theorem OUT_soft (c : Dev nD) (b r : Fin 8) (h : Fin 16) (d : Fin 128) (s t : Fin 1024 → ℝ)
    (hs : Row (qRd m c b h) (kRd m c b h) r s) (ht : Row (qRd m (peer c) b h) (kRd m (peer c) b h) r t) :
    OUT m c (ix4 b r h d)
      = (∑ l, vRd m c b h (ix3 0 l d) * ((Real.exp (s l) / (Cert.Soft.tot s + Cert.Soft.tot t) : ℝ) : EReal))
        + ∑ l, vRd m (peer c) b h (ix3 0 l d) * ((Real.exp (t l) / (Cert.Soft.tot s + Cert.Soft.tot t) : ℝ) : EReal) := by
  obtain ⟨M, eM, eL, eO⟩ := row_half hs
  obtain ⟨N, fM, fL, fO⟩ := row_half ht
  rw [OUT_apply, W0, W1, w0_apply, w1_apply, OL_apply, OL_apply]
  simp only [TLm_apply, TLs_apply]
  unfold hO hM hL
  rw [eM, fM, eL, fL, eO, fO]
  exact Cert.Soft.comb s t _ _ M N

end Cert.KernelIdeal.Run

end
-- ==== Proof.Refr.lean ====
/- What the reference computes: the softmax of the scores of all 2048 keys, read element by element. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pointwise

variable (q : FVec Ideal S8x8x16x128 .f32) (k v : FVec Ideal S8x2048x16x128 .f32)

/-- The scores of all keys. -/
def sc : FVec Ideal S8x16x8x2048 .f32 :=
  mulf (Host.dotGeneral dot_S8x8x16x128_S8x2048x16x128_S8x16x8x2048_3_3_1_1_02_02 none q k)
    (broadcastInDim S8x16x8x2048 ![] bcast_S_S8x16x8x2048 (constant S_ .f32 0x3DB504F3#32))
/-- Their maximum over the keys. -/
def mx (s : FVec Ideal S8x16x8x2048 .f32) : FVec Ideal S8x16x8 .f32 :=
  Host.reduce FloatOps.maximumf s (constant S_ .f32 0xFF800000#32) reducesTo_S8x16x8x2048_S8x16x8_d3 h_S_
/-- One number per row, repeated along the keys. -/
def rep (x : FVec Ideal S8x16x8 .f32) : FVec Ideal S8x16x8x2048 .f32 :=
  broadcastInDim S8x16x8x2048 ![0, 1, 2, 3] bcast_S8x16x8x1_S8x16x8x2048_0_1_2_3
    (broadcastInDim S8x16x8x1 ![0, 1, 2] bcast_S8x16x8_S8x16x8x1_0_1_2 x)
/-- The exponentials of the scores less their maximum. -/
def ex : FVec Ideal S8x16x8x2048 .f32 := Host.exp (subf (sc q k) (rep (mx (sc q k))))
/-- Their sum. -/
def sm (e : FVec Ideal S8x16x8x2048 .f32) : FVec Ideal S8x16x8 .f32 :=
  Host.reduceAdd e (constant S_ .f32 0x00000000#32) reducesTo_S8x16x8x2048_S8x16x8_d3 h_S_
/-- The result. -/
def res : FVec Ideal S8x8x16x128 .f32 :=
  transpose S8x8x16x128 [0, 3, 1, 2]
    (Host.dotGeneral dot_S8x2048x16x128_S8x16x8x2048_S8x16x128x8_1_3_3_2_02_01 none v
      (Host.divf (ex q k) (rep (sm (ex q k))))) transposes_S8x16x128x8_S8x8x16x128_0_3_1_2

/-- A score is a scaled product of a query and a key. -/
theorem sc_apply (b : Fin 8) (h : Fin 16) (r : Fin 8) (l : Fin 2048) :
    sc q k (ix4 b h r l) = (∑ x : Fin 128, q (ix4 b r h x) * k (ix4 b l h x)) * Ideal.ofBits .f32 0x3DB504F3#32 := by
  pointwise [sc]
/-- A row's maximum. -/
theorem mx_apply (s : FVec Ideal S8x16x8x2048 .f32) (b : Fin 8) (h : Fin 16) (r : Fin 8) :
    mx s (ix3 b h r) = Finset.univ.fold max (Ideal.ofBits .f32 0xFF800000#32) fun l : Fin 2048 => s (ix4 b h r l) := by
  pointwise [mx]
/-- A row's number at a key. -/
theorem rep_apply (x : FVec Ideal S8x16x8 .f32) (b : Fin 8) (h : Fin 16) (r : Fin 8) (l : Fin 2048) :
    rep x (ix4 b h r l) = x (ix3 b h r) := by
  pointwise [rep]
/-- An exponential. -/
theorem ex_apply (b : Fin 8) (h : Fin 16) (r : Fin 8) (l : Fin 2048) :
    ex q k (ix4 b h r l) = Ideal.exp (sc q k (ix4 b h r l) - mx (sc q k) (ix3 b h r)) := by
  have e : ex q k (ix4 b h r l) = Ideal.exp (sc q k (ix4 b h r l) - rep (mx (sc q k)) (ix4 b h r l)) := rfl
  rw [e, rep_apply]
/-- A row's sum. -/
theorem sm_apply (e : FVec Ideal S8x16x8x2048 .f32) (b : Fin 8) (h : Fin 16) (r : Fin 8) :
    sm e (ix3 b h r) = ∑ l : Fin 2048, e (ix4 b h r l) := by
  pointwise [sm]
/-- The result is the weighted sum of the values. -/
theorem res_apply (b r : Fin 8) (h : Fin 16) (d : Fin 128) :
    res q k v (ix4 b r h d) = ∑ l : Fin 2048, v (ix4 b l h d)
      * Ideal.div (ex q k (ix4 b h r l)) (sm (ex q k) (ix3 b h r)) := by
  pointwise [res]
  exact Finset.sum_congr rfl fun l _ => by rw [rep_apply]

/-- The run, its result named. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = res (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

end Cert.ReferenceIdeal.Value

end
-- ==== Proof.Value.lean ====
/- The value: with finite queries and keys every device's result is the reference's. -/
module

public import proofs.«01_k».proof.Defs
public import proofs.«01_k».proof.Proof.Halves
public import proofs.«01_k».proof.Proof.Refr
public import Idealize.ShloMosaic.Lib.Layout

@[expose] public section

set_option maxRecDepth 16384

noncomputable section

namespace Cert.Val

open Idealize.ShloMosaic Idealize.ShloMosaic.TcCoe
open Cert.KernelIdeal (nD τ sig main_arg0 main_arg1 main_arg2)
open Cert.KernelIdeal.Run (peer OUT OUT_soft Row qRd kRd vRd qRd_apply kRd_apply vRd_apply headS_apply)
open Cert.ReferenceIdeal.Value (sc mx ex sm res sc_apply mx_apply ex_apply sm_apply res_apply)

/-! ## The halves of the keys -/

/-- Key `l` of half `j`. -/
def key (j : Fin 2) (l : Fin 1024) : Fin 2048 := ⟨j.val * 1024 + l.val, by omega⟩
/-- The half a device holds: its coordinate on the mesh's second axis. -/
def half (c : Dev nD) : Fin 2 := ⟨c.val / 4 % 2, Nat.mod_lt _ (by decide)⟩

/-- A device's peer holds the other half. -/
theorem half_peer : ∀ c : Dev nD, half c = 0 ∧ half (peer c) = 1 ∨ half c = 1 ∧ half (peer c) = 0 := by decide

/-- Every key is in a half. -/
theorem key_surj (l : Fin 2048) : ∃ j i, l = key j i := by
  by_cases h : l.val < 1024
  · exact ⟨0, ⟨l.val, h⟩, Fin.ext (show l.val = 0 * 1024 + l.val by omega)⟩
  · exact ⟨1, ⟨l.val - 1024, by omega⟩, Fin.ext (show l.val = 1 * 1024 + (l.val - 1024) by omega)⟩

/-- A sum over the keys is the sum over both halves. -/
theorem sum_halves {M : Type} [AddCommMonoid M] (f : Fin 2048 → M) : ∑ l, f l = ∑ l, f (key 0 l) + ∑ l, f (key 1 l) := by
  refine (Fin.sum_univ_add (a := 1024) (b := 1024) f).trans (congrArg₂ (· + ·) ?_ ?_)
  · exact Finset.sum_congr rfl fun l _ => congrArg f (Fin.ext (show l.val = 0 * 1024 + l.val by omega))
  · exact Finset.sum_congr rfl fun l _ => congrArg f (Fin.ext (show 1024 + l.val = 1 * 1024 + l.val by omega))

/-- A sum over the keys is the sum over a device's half and its peer's. -/
theorem sum_dev {M : Type} [AddCommMonoid M] (f : Fin 2048 → M) (c : Dev nD) :
    ∑ l, f l = ∑ l, f (key (half c) l) + ∑ l, f (key (half (peer c)) l) := by
  rw [sum_halves]
  rcases half_peer c with ⟨h, h'⟩ | ⟨h, h'⟩ <;> rw [h, h']
  exact add_comm _ _

/-- The coordinate the layout names is the half. -/
theorem mesh_half : ∀ c : Dev nD, Layout.meshLin [2, 2, 4] c.val [1] = (half c).val := by decide

/-- A device's block of an array cut along its keys, read at an element. -/
theorem block_apply (v : (⟨4, ![8, 2048, 16, 128]⟩ : Shape).Idx → EReal) (c : Dev nD) (b : Fin 8) (l : Fin 1024) (h : Fin 16) (d : Fin 128) :
    (Layout.blockN ⟨4, ![8, 1024, 16, 128]⟩ ⟨4, ![8, 2048, 16, 128]⟩ (Layout.meshBlock [2, 2, 4] ![[], [1], [], []] c) v) (ix4 b l h d)
      = v (ix4 b (key (half c) l) h d) := by
  refine congrArg v (funext fun a => Fin.ext ?_)
  match a with
  | ⟨0, _⟩ => show 0 * 8 + b.val = b.val; omega
  | ⟨1, _⟩ => show Layout.meshLin [2, 2, 4] c.val [1] * 1024 + l.val = (half c).val * 1024 + l.val; rw [mesh_half]
  | ⟨2, _⟩ => show 0 * 16 + h.val = h.val; omega
  | ⟨3, _⟩ => show 0 * 128 + d.val = d.val; omega

/-! ## Finite entries -/

/-- What compares below plus infinity in magnitude is a real. -/
theorem real_of_lt (x : EReal) (h : Ideal.cmp .olt (max x (-x)) (Ideal.ofBits .f32 0x7F800000#32) = 1#1) : ∃ r : ℝ, x = (r : EReal) := by
  rw [Cert.Soft.ofBits_top] at h
  induction x using EReal.rec with
  | bot => simp [Ideal.cmp] at h
  | coe r => exact ⟨r, rfl⟩
  | top => simp [Ideal.cmp] at h

section Finite

variable [Cert.Pre_finite_scores_KernelIdeal.Facts]
variable (m : (ℓ : Loc nD τ sig) → Buf (Elt Ideal) ℓ) (H : Cert.Pre_KernelIdeal_finite_scores_KernelIdeal m)

include H

/-- Every query is a real. -/
theorem q_real (c : Dev nD) (x : Cert.KernelIdeal.S8x8x16x128.Idx) : ∃ r : ℝ, m ((c : Thread nD τ).loc main_arg0) x = (r : EReal) :=
  real_of_lt _ (congrFun (H c).1 x)
/-- Every key is a real. -/
theorem k_real (c : Dev nD) (x : Cert.KernelIdeal.S8x1024x16x128.Idx) : ∃ r : ℝ, m ((c : Thread nD τ).loc main_arg1) x = (r : EReal) :=
  real_of_lt _ (congrFun (H c).2 x)

end Finite

/-- A score of real queries and keys is a real. -/
theorem score_real (q k : Fin 128 → EReal) (hq : ∀ x, ∃ r : ℝ, q x = (r : EReal)) (hk : ∀ x, ∃ r : ℝ, k x = (r : EReal)) :
    ∃ r : ℝ, (∑ x, q x * k x) * Ideal.ofBits .f32 0x3DB504F3#32 = (r : EReal) := by
  choose a ha using hq
  choose e he using hk
  obtain ⟨w, hw⟩ := Cert.Soft.ofBits_scale
  refine ⟨(∑ x, a x * e x) * w, ?_⟩
  have : (∑ x, q x * k x) = ((∑ x, a x * e x : ℝ) : EReal) := by
    rw [← Cert.Soft.sum_coe]
    exact Finset.sum_congr rfl fun x _ => by rw [ha, he, EReal.coe_mul]
  rw [this, hw, EReal.coe_mul]

/-! ## The two results -/

/-- The reference's result at an element, its scores real: the softmax over all keys. -/
theorem res_soft (q : FVec Ideal Cert.ReferenceIdeal.S8x8x16x128 .f32) (k v : FVec Ideal Cert.ReferenceIdeal.S8x2048x16x128 .f32)
    (b r : Fin 8) (h : Fin 16) (d : Fin 128) (S : Fin 2048 → ℝ) (hS : ∀ l, sc q k (ix4 b h r l) = (S l : EReal)) :
    res q k v (ix4 b r h d) = ∑ l, v (ix4 b l h d) * ((Real.exp (S l) / Cert.Soft.tot S : ℝ) : EReal) := by
  obtain ⟨M, hM⟩ := Cert.Soft.fold_max_real (fun l : Fin 2048 => sc q k (ix4 b h r l)) (fun l => ⟨S l, hS l⟩)
  have eM : mx (sc q k) (ix3 b h r) = (M : EReal) := by rw [mx_apply, Cert.Soft.ofBits_bot, hM]
  have eE : ∀ l, ex q k (ix4 b h r l) = Ideal.exp ((S l : EReal) - (M : EReal)) := fun l => by rw [ex_apply, hS, eM]
  rw [res_apply, sm_apply]
  simp only [eE]
  exact Cert.Soft.plain S _ M

/-- Every device's result is the reference's. -/
theorem out_eq [Cert.Pre_finite_scores_KernelIdeal.Facts] (m : (ℓ : Loc nD τ sig) → Buf (Elt Ideal) ℓ)
    (H : Cert.Pre_KernelIdeal_finite_scores_KernelIdeal m)
    (q : FVec Ideal Cert.ReferenceIdeal.S8x8x16x128 .f32) (k v : FVec Ideal Cert.ReferenceIdeal.S8x2048x16x128 .f32)
    (hq : ∀ c : Dev nD, m ((c : Thread nD τ).loc main_arg0) = q)
    (hk : ∀ c : Dev nD, m ((c : Thread nD τ).loc main_arg1)
      = Layout.blockN ⟨4, ![8, 1024, 16, 128]⟩ ⟨4, ![8, 2048, 16, 128]⟩ (Layout.meshBlock [2, 2, 4] ![[], [1], [], []] c) k)
    (hv : ∀ c : Dev nD, m ((c : Thread nD τ).loc main_arg2)
      = Layout.blockN ⟨4, ![8, 1024, 16, 128]⟩ ⟨4, ![8, 2048, 16, 128]⟩ (Layout.meshBlock [2, 2, 4] ![[], [1], [], []] c) v)
    (c : Dev nD) : OUT m c = res q k v := by
  have ek : ∀ (c : Dev nD) (b : Fin 8) (l : Fin 1024) (h : Fin 16) (x : Fin 128),
      m ((c : Thread nD τ).loc main_arg1) (ix4 b l h x) = k (ix4 b (key (half c) l) h x) := fun c b l h x =>
    (congrFun (hk c) _).trans (block_apply k c b l h x)
  have ev : ∀ (c : Dev nD) (b : Fin 8) (l : Fin 1024) (h : Fin 16) (x : Fin 128),
      m ((c : Thread nD τ).loc main_arg2) (ix4 b l h x) = v (ix4 b (key (half c) l) h x) := fun c b l h x =>
    (congrFun (hv c) _).trans (block_apply v c b l h x)
  have rq : ∀ (b r : Fin 8) (h : Fin 16) (x : Fin 128), ∃ y : ℝ, q (ix4 b r h x) = (y : EReal) := fun b r h x =>
    hq c ▸ q_real m H c _
  have rk : ∀ (b : Fin 8) (l : Fin 2048) (h : Fin 16) (x : Fin 128), ∃ y : ℝ, k (ix4 b l h x) = (y : EReal) := by
    intro b l h x
    obtain ⟨j, i, rfl⟩ := key_surj l
    obtain ⟨c', e⟩ : ∃ c' : Dev nD, half c' = j := by
      rcases half_peer c with ⟨h, h'⟩ | ⟨h, h'⟩ <;> revert j <;> intro j <;> fin_cases j
      exacts [⟨_, h⟩, ⟨_, h'⟩, ⟨_, h'⟩, ⟨_, h⟩]
    subst e
    exact ek c' b i h x ▸ k_real m H c' _
  refine funext fun y => ?_
  obtain ⟨b, r, h, d, rfl⟩ : ∃ (b r : Fin 8) (h : Fin 16) (d : Fin 128), y = ix4 b r h d :=
    ⟨y 0, y 1, y 2, y 3, funext fun a => by match a with | ⟨0, _⟩ => rfl | ⟨1, _⟩ => rfl | ⟨2, _⟩ => rfl | ⟨3, _⟩ => rfl⟩
  have hS : ∀ l, ∃ s : ℝ, sc q k (ix4 b h r l) = (s : EReal) := fun l => by
    rw [sc_apply]
    exact score_real _ _ (fun x => rq b r h x) (fun x => rk b l h x)
  choose S hS using hS
  have row : ∀ c : Dev nD, Row (qRd m c b h) (kRd m c b h) r fun l => S (key (half c) l) := fun c => ⟨fun l => by
    rw [← hS, sc_apply, headS_apply]
    simp only [qRd_apply, kRd_apply, ek, hq]⟩
  have T : Cert.Soft.tot S = Cert.Soft.tot (fun l => S (key (half c) l)) + Cert.Soft.tot (fun l => S (key (half (peer c)) l)) :=
    sum_dev (fun l => Real.exp (S l)) c
  rw [res_soft q k v b r h d S hS, OUT_soft m c b r h d _ _ (row c) (row (peer c)),
    sum_dev (fun l => v (ix4 b l h d) * ((Real.exp (S l) / Cert.Soft.tot S : ℝ) : EReal)) c, T]
  simp only [vRd_apply, ev]

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Start
public import proofs.«01_k».proof.Proof.Value
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The two programs' kernels are one table. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  have : l = 0 := Subsingleton.elim _ _
  subst this
  rfl
/-- The two programs' body tables are one. -/
theorem defs_eq : Cert.Kernel.defs (F := Bits) = Cert.KernelIdeal.defs (F := Bits) := by
  unfold Cert.Kernel.defs Cert.KernelIdeal.defs
  exact congrArg (Idealize.ShloMosaic.Pipeline.defs _) defs₀_eq

/-- The kernel's frame: the idealized program's run read at the machine's floats, the two programs being one text. -/
theorem frame_kernel : Cert.quiescent_Kernel := fun m ρ _ => by
  rw [defs_eq]
  exact (θ_run Cert.KernelIdeal.defs _ _).mono
    (fun _ h => ⟨fun c => ⟨((h.1 c).1 0).trans (Cert.KernelIdeal.Run.final_q m ρ c), (h.1 c).2⟩, h.2⟩)
    (Cert.KernelIdeal.Run.run_main (F := Bits) m ρ)

/-- The idealized kernel's frame. -/
theorem frame_kernel_ideal : Cert.quiescent_KernelIdeal := fun m ρ _ =>
  (θ_run Cert.KernelIdeal.defs _ _).mono
    (fun _ h => ⟨fun c => ⟨((h.1 c).1 0).trans (Cert.KernelIdeal.Run.final_q m ρ c), (h.1 c).2⟩, h.2⟩)
    (Cert.KernelIdeal.Run.run_main (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The stated facts of the precondition's text, over a device's blocks. -/
theorem pre_facts_kernel : Cert.Pre_finite_scores_KernelIdeal.Facts := ⟨by decide, by decide⟩
/-- The stated facts of the precondition's text, over the whole arrays. -/
theorem pre_facts_reference : Cert.Pre_finite_scores_ReferenceIdeal.Facts := ⟨by decide, by decide⟩

/-- With finite queries and keys every device ends with the reference's result. -/
theorem algebraic_kernel :
    Cert.algebraic_KernelIdeal_ReferenceIdeal_pre_finite_scores_KernelIdeal (hPre_finite_scores_KernelIdeal := pre_facts_kernel) := by
  intro m g m' g' H hm
  refine ⟨Cert.ReferenceIdeal.Value.res (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2)), ?_, ?_⟩
  rotate_left
  · exact (θ_run Cert.ReferenceIdeal.defs _ _).mono (fun _ h => h 0) (Cert.ReferenceIdeal.Value.run_res m' g')
  · refine (θ_run Cert.KernelIdeal.defs _ _).mono (fun r h c => ⟨?_, ((h.1 c).1 0).trans (Cert.KernelIdeal.Run.final_q m g c), (h.1 c).2⟩)
      (Cert.KernelIdeal.Run.run_main (F := Ideal) m g)
    exact ((h.1 c).1 1).trans ((Cert.KernelIdeal.Run.arrAt_out m g c).trans
      (@Cert.Val.out_eq pre_facts_kernel m H _ _ _ (fun c => (hm c).1) (fun c => (hm c).2.1) (fun c => (hm c).2.2) c))

/-- Everything the certificate claims. -/
theorem claim : Cert.Claim := ⟨Cert.Kernel.Gen.facts, Cert.KernelIdeal.Gen.facts, Cert.ReferenceIdeal.Gen.facts,
  pre_facts_kernel, pre_facts_reference,
  frame_kernel, frame_kernel_ideal, fun m g _ => frame_kernel_ideal m g trivial, frame_reference,
  fun m g _ => frame_reference m g trivial, trivial, algebraic_kernel⟩

end Cert.Proof

end
